-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v485) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v5) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v23) = v0 c
          ∧ r.2.mem ((c.tc : Thread Cert.NormReferenceIdeal.nD Cert.NormReferenceIdeal.τ).loc Cert.NormReferenceIdeal.main_v24) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hNorm : Cert.Norm.Facts) (hNormIdeal : Cert.NormIdeal.Facts) (hNormReferenceIdeal : Cert.NormReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Norm_NormIdeal
    ∧ algebraic_NormIdeal_NormReferenceIdeal (hNormIdeal := hNormIdeal) (hNormReferenceIdeal := hNormReferenceIdeal)
-- ==== Pre_finite.lean ====
abbrev S8192x10752 : Shape := ⟨2, ![8192, 10752]⟩
abbrev S32 : Shape := ⟨1, ![32]⟩
abbrev S3x1024 : Shape := ⟨2, ![3, 1024]⟩
abbrev S4x1024 : Shape := ⟨2, ![4, 1024]⟩
abbrev S1024 : Shape := ⟨1, ![1024]⟩
abbrev S8x128x256 : Shape := ⟨3, ![8, 128, 256]⟩
abbrev S2048 : Shape := ⟨1, ![2048]⟩
abbrev S8192x2304 : Shape := ⟨2, ![8192, 2304]⟩
abbrev S_ : Shape := ⟨0, ![]⟩

class Facts : Prop where
  slices_S8192x10752_S8192x2304_0_4096 : S8192x10752.Slices ![0, 4096] S8192x2304
  bitsLt_bf16_f32 : FTy.bits .bf16 < FTy.bits .f32
  bcast_S_S8192x2304 : S_.BroadcastsInDim S8192x2304 (![] : Fin 0 → Fin S8192x2304.rank)
  reducesTo_S8192x2304_S_d0_1 : S8192x2304.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S8192x10752 .bf16) (main_arg1 : FVec F S32 .f32) (main_arg2 : FVec F S3x1024 .f32) (main_arg3 : FVec F S4x1024 .f32) (main_arg4 : FVec F S1024 .f32) (main_arg5 : FVec F S8x128x256 .bf16) (main_arg6 : FVec F S1024 .f32) (main_arg7 : FVec F S1024 .f32) (main_arg8 : FVec F S1024 .f32) (main_arg9 : FVec F S1024 .f32) (main_arg10 : FVec F S2048 .f32) (main_arg11 : FVec F S1024 .f32) : IVec S_ 1 :=
  let main_v0 : FVec F S8192x2304 .bf16 := (extractStridedSlice S8192x2304 ![0, 4096] · slices_S8192x10752_S8192x2304_0_4096) main_arg0
  let main_v1 : FVec F S8192x2304 .f32 := (extf .f32 · bitsLt_bf16_f32) main_v0
  let main_v2 : FVec F S8192x2304 .f32 := Host.absf main_v1
  let main_cst : FVec F S_ .f32 := constant S_ .f32 0x7F800000#32
  let main_v3 : FVec F S8192x2304 .f32 := broadcastInDim S8192x2304 ![] bcast_S_S8192x2304 main_cst
  let main_v4 : IVec S8192x2304 1 := cmpf .olt main_v2 main_v3
  let main_c : IVec S_ 1 := constantI S_ 1 1#1
  let main_v5 : IVec S_ 1 := (fun x v => Host.reduce IntOp.andi x v reducesTo_S8192x2304_S_d0_1 h_S_) main_v4 main_c
  let main_v6 : FVec F S32 .f32 := Host.absf main_arg1
  let main_cst_0 : FVec F S_ .f32 := constant S_ .f32 0x7F800000#32
  let main_v7 : FVec F S32 .f32 := broadcastInDim S32 ![] bcast_S_S32 main_cst_0
  let main_v8 : IVec S32 1 := cmpf .olt main_v6 main_v7
  let main_c_1 : IVec S_ 1 := constantI S_ 1 1#1
  let main_v9 : IVec S_ 1 := (fun x v => Host.reduce IntOp.andi x v reducesTo_S32_S_d0 h_S_) main_v8 main_c_1
  let main_v10 : IVec S_ 1 := andi main_v5 main_v9
  main_v10
-- ==== Kernel.lean ====
abbrev S8192x10752 : Shape := ⟨2, ![8192, 10752]⟩
abbrev S32 : Shape := ⟨1, ![32]⟩
abbrev S3x1024 : Shape := ⟨2, ![3, 1024]⟩
abbrev S4x1024 : Shape := ⟨2, ![4, 1024]⟩
abbrev S1024 : Shape := ⟨1, ![1024]⟩
abbrev S8x128x256 : Shape := ⟨3, ![8, 128, 256]⟩
abbrev S2048 : Shape := ⟨1, ![2048]⟩
abbrev S1x1024 : Shape := ⟨2, ![1, 1024]⟩
abbrev S1x2048 : Shape := ⟨2, ![1, 2048]⟩
abbrev S8192x4096 : Shape := ⟨2, ![8192, 4096]⟩
abbrev S128x10752 : Shape := ⟨2, ![128, 10752]⟩
abbrev S128x4096 : Shape := ⟨2, ![128, 4096]⟩
abbrev S144x1024 : Shape := ⟨2, ![144, 1024]⟩
abbrev S128x256 : Shape := ⟨2, ![128, 256]⟩
abbrev S8x1024 : Shape := ⟨2, ![8, 1024]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x256 : Shape := ⟨3, ![1, 128, 256]⟩
abbrev S256x256 : Shape := ⟨2, ![256, 256]⟩
abbrev S256x128 : Shape := ⟨2, ![256, 128]⟩
abbrev S512x512 : Shape := ⟨2, ![512, 512]⟩
abbrev S512x128 : Shape := ⟨2, ![512, 128]⟩
abbrev S1 : Shape := ⟨1, ![1]⟩
abbrev S512x1 : Shape := ⟨2, ![512, 1]⟩
abbrev S512x256 : Shape := ⟨2, ![512, 256]⟩
abbrev S512 : Shape := ⟨1, ![512]⟩

abbrev nBuf : Space → Nat
  | .hbm => 20
  | .vmem => 20
  | .smem => 1
  | _ => 0

abbrev bufTy : (tb : Table) → Fin (tcTables nBuf tb) → BufTy
  | .hbm, ⟨0, _⟩ => ⟨S8192x10752, .bf16⟩
  | .hbm, ⟨1, _⟩ => ⟨S32, .f32⟩
  | .hbm, ⟨2, _⟩ => ⟨S3x1024, .f32⟩
  | .hbm, ⟨3, _⟩ => ⟨S4x1024, .f32⟩
  | .hbm, ⟨4, _⟩ => ⟨S1024, .f32⟩
  | .hbm, ⟨5, _⟩ => ⟨S8x128x256, .bf16⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S2048, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x2048, .f32⟩
  | .hbm, ⟨18, _⟩ => ⟨S1x1024, .f32⟩
  | .hbm, ⟨19, _⟩ => ⟨S8192x4096, .bf16⟩
  | .local _ .vmem, ⟨0, _⟩ => ⟨S128x10752, .bf16⟩
  | .local _ .vmem, ⟨1, _⟩ => ⟨S128x10752, .bf16⟩
  | .local _ .vmem, ⟨2, _⟩ => ⟨S3x1024, .f32⟩
  | .local _ .vmem, ⟨3, _⟩ => ⟨S4x1024, .f32⟩
  | .local _ .vmem, ⟨4, _⟩ => ⟨S1x1024, .f32⟩
  | .local _ .vmem, ⟨5, _⟩ => ⟨S8x128x256, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x2048, .f32⟩
  | .local _ .vmem, ⟨11, _⟩ => ⟨S1x1024, .f32⟩
  | .local _ .vmem, ⟨12, _⟩ => ⟨S128x4096, .bf16⟩
  | .local _ .vmem, ⟨13, _⟩ => ⟨S128x4096, .bf16⟩
  | .local _ .vmem, ⟨14, _⟩ => ⟨S144x1024, .f32⟩
  | .local _ .vmem, ⟨15, _⟩ => ⟨S144x1024, .f32⟩
  | .local _ .vmem, ⟨16, _⟩ => ⟨S128x256, .f32⟩
  | .local _ .vmem, ⟨17, _⟩ => ⟨S128x256, .f32⟩
  | .local _ .vmem, ⟨18, _⟩ => ⟨S8x1024, .f32⟩
  | .local _ .vmem, ⟨19, _⟩ => ⟨S128x2048, .f32⟩
  | .local _ .smem, ⟨0, _⟩ => ⟨S32, .f32⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x10752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8192x10752 : Shape := ⟨2, ![8192, 10752]⟩
abbrev S32 : Shape := ⟨1, ![32]⟩
abbrev S3x1024 : Shape := ⟨2, ![3, 1024]⟩
abbrev S4x1024 : Shape := ⟨2, ![4, 1024]⟩
abbrev S1024 : Shape := ⟨1, ![1024]⟩
abbrev S8x128x256 : Shape := ⟨3, ![8, 128, 256]⟩
abbrev S2048 : Shape := ⟨1, ![2048]⟩
abbrev S4x2048x10752 : Shape := ⟨3, ![4, 2048, 10752]⟩
abbrev S4x2048x1024 : Shape := ⟨3, ![4, 2048, 1024]⟩
abbrev S4x2048x2048 : Shape := ⟨3, ![4, 2048, 2048]⟩
abbrev S4x2048x256 : Shape := ⟨3, ![4, 2048, 256]⟩
abbrev S_ : Shape := ⟨0, ![]⟩
abbrev S4x2050x1024 : Shape := ⟨3, ![4, 2050, 1024]⟩
abbrev S1x1024 : Shape := ⟨2, ![1, 1024]⟩
abbrev S1x1x1024 : Shape := ⟨3, ![1, 1, 1024]⟩
abbrev S4x2048x32x64 : Shape := ⟨4, ![4, 2048, 32, 64]⟩
abbrev S4x2048x4x64 : Shape := ⟨4, ![4, 2048, 4, 64]⟩
abbrev S4x16x128x4x8x64 : Shape := ⟨6, ![4, 16, 128, 4, 8, 64]⟩
abbrev S4x16x128x4x64 : Shape := ⟨5, ![4, 16, 128, 4, 64]⟩
abbrev S4x17x128x4x64 : Shape := ⟨5, ![4, 17, 128, 4, 64]⟩
abbrev S4x16x256x4x64 : Shape := ⟨5, ![4, 16, 256, 4, 64]⟩
abbrev S4x16x4x256x128x8 : Shape := ⟨6, ![4, 16, 4, 256, 128, 8]⟩
abbrev S4x16x4x8x128x256 : Shape := ⟨6, ![4, 16, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S4x8 : Shape := ⟨2, ![4, 8]⟩
abbrev S1x1x4x8x1x1 : Shape := ⟨6, ![1, 1, 4, 8, 1, 1]⟩
abbrev S4x16x4x8x128 : Shape := ⟨5, ![4, 16, 4, 8, 128]⟩
abbrev S4x16x4x8x128x1 : Shape := ⟨6, ![4, 16, 4, 8, 128, 1]⟩
abbrev S4x16x4x64x8x128 : Shape := ⟨6, ![4, 16, 4, 64, 8, 128]⟩
abbrev S4x2051x1024 : Shape := ⟨3, ![4, 2051, 1024]⟩
abbrev S8x128x128 : Shape := ⟨3, ![8, 128, 128]⟩
abbrev S4x2048x8x128 : Shape := ⟨4, ![4, 2048, 8, 128]⟩
abbrev S8x128x4x2048 : Shape := ⟨4, ![8, 128, 4, 2048]⟩
abbrev S4x1024x1024 : Shape := ⟨3, ![4, 1024, 1024]⟩
abbrev S4x512x1024 : Shape := ⟨3, ![4, 512, 1024]⟩
abbrev S4x256x1024 : Shape := ⟨3, ![4, 256, 1024]⟩
abbrev S4x128x1024 : Shape := ⟨3, ![4, 128, 1024]⟩
abbrev S4x64x1024 : Shape := ⟨3, ![4, 64, 1024]⟩
abbrev S4x32x1024 : Shape := ⟨3, ![4, 32, 1024]⟩
abbrev S4x16x1024 : Shape := ⟨3, ![4, 16, 1024]⟩
abbrev S4x8x1024 : Shape := ⟨3, ![4, 8, 1024]⟩
abbrev S4x4x1024 : Shape := ⟨3, ![4, 4, 1024]⟩
abbrev S4x2x1024 : Shape := ⟨3, ![4, 2, 1024]⟩
abbrev S4x1x1024 : Shape := ⟨3, ![4, 1, 1024]⟩
abbrev S4x0x1024 : Shape := ⟨3, ![4, 0, 1024]⟩
abbrev S4x3x1024 : Shape := ⟨3, ![4, 3, 1024]⟩
abbrev S4x7x1024 : Shape := ⟨3, ![4, 7, 1024]⟩
abbrev S4x15x1024 : Shape := ⟨3, ![4, 15, 1024]⟩
abbrev S4x31x1024 : Shape := ⟨3, ![4, 31, 1024]⟩
abbrev S4x63x1024 : Shape := ⟨3, ![4, 63, 1024]⟩
abbrev S4x127x1024 : Shape := ⟨3, ![4, 127, 1024]⟩
abbrev S4x255x1024 : Shape := ⟨3, ![4, 255, 1024]⟩
abbrev S4x511x1024 : Shape := ⟨3, ![4, 511, 1024]⟩
abbrev S4x1023x1024 : Shape := ⟨3, ![4, 1023, 1024]⟩
abbrev S4x2048 : Shape := ⟨2, ![4, 2048]⟩
abbrev S4x2048x1 : Shape := ⟨3, ![4, 2048, 1]⟩
abbrev S1x1x2048 : Shape := ⟨3, ![1, 1, 2048]⟩
abbrev S4x2048x4096 : Shape := ⟨3, ![4, 2048, 4096]⟩
abbrev S8192x4096 : Shape := ⟨2, ![8192, 4096]⟩

abbrev nBuf : Space → Nat
  | .hbm => 616
  | .vmem => 0
  | .smem => 0
  | _ => 0

abbrev hbmTy0_0 (i : Nat) : BufTy := match i % 128 with
  | 0 => ⟨S8192x10752, .bf16⟩
  | 1 => ⟨S32, .f32⟩
  | 2 => ⟨S3x1024, .f32⟩
  | 3 => ⟨S4x1024, .f32⟩
  | 4 => ⟨S1024, .f32⟩
  | 5 => ⟨S8x128x256, .bf16⟩
  | 6 => ⟨S1024, .f32⟩
  | 7 => ⟨S1024, .f32⟩
  | 8 => ⟨S1024, .f32⟩
  | 9 => ⟨S1024, .f32⟩
  | 10 => ⟨S2048, .f32⟩
  | 11 => ⟨S1024, .f32⟩
  | 12 => ⟨S8192x10752, .f32⟩
  | 13 => ⟨S4x2048x10752, .f32⟩
  | 14 => ⟨S4x2048x1024, .f32⟩
  | 15 => ⟨S4x2048x1024, .f32⟩
  | 16 => ⟨S4x2048x1024, .f32⟩
  | 17 => ⟨S4x2048x1024, .f32⟩
  | 18 => ⟨S4x2048x2048, .f32⟩
  | 19 => ⟨S4x2048x256, .f32⟩
  | 20 => ⟨S4x2048x256, .f32⟩
  | 21 => ⟨S4x2048x2048, .f32⟩
  | 22 => ⟨S4x2048x1024, .f32⟩
  | 23 => ⟨S4x2048x1024, .f32⟩
  | 24 => ⟨S4x2048x1024, .f32⟩
  | 25 => ⟨S_, .i32⟩
  | 26 => ⟨S_, .f32⟩
  | 27 => ⟨S4x2050x1024, .f32⟩
  | 28 => ⟨S4x2048x1024, .f32⟩
  | 29 => ⟨S1x1024, .f32⟩
  | 30 => ⟨S1024, .f32⟩
  | 31 => ⟨S1x1x1024, .f32⟩
  | 32 => ⟨S4x2048x1024, .f32⟩
  | 33 => ⟨S4x2048x1024, .f32⟩
  | 34 => ⟨S4x2048x1024, .f32⟩
  | 35 => ⟨S1x1024, .f32⟩
  | 36 => ⟨S1024, .f32⟩
  | 37 => ⟨S1x1x1024, .f32⟩
  | 38 => ⟨S4x2048x1024, .f32⟩
  | 39 => ⟨S4x2048x1024, .f32⟩
  | 40 => ⟨S4x2048x1024, .f32⟩
  | 41 => ⟨S4x2048x1024, .f32⟩
  | 42 => ⟨S1x1024, .f32⟩
  | 43 => ⟨S1024, .f32⟩
  | 44 => ⟨S1x1x1024, .f32⟩
  | 45 => ⟨S4x2048x1024, .f32⟩
  | 46 => ⟨S4x2048x1024, .f32⟩
  | 47 => ⟨S4x2048x1024, .f32⟩
  | 48 => ⟨S4x2048x1024, .f32⟩
  | 49 => ⟨S4x2048x32x64, .f32⟩
  | 50 => ⟨S4x2048x4x64, .f32⟩
  | 51 => ⟨S4x2048x4x64, .f32⟩
  | 52 => ⟨S4x16x128x4x8x64, .f32⟩
  | 53 => ⟨S4x16x128x4x64, .f32⟩
  | 54 => ⟨S_, .i32⟩
  | 55 => ⟨S_, .f32⟩
  | 56 => ⟨S4x17x128x4x64, .f32⟩
  | 57 => ⟨S4x16x128x4x64, .f32⟩
  | 58 => ⟨S4x16x256x4x64, .f32⟩
  | 59 => ⟨S4x16x128x4x64, .f32⟩
  | 60 => ⟨S_, .i32⟩
  | 61 => ⟨S_, .f32⟩
  | 62 => ⟨S4x17x128x4x64, .f32⟩
  | 63 => ⟨S4x16x128x4x64, .f32⟩
  | 64 => ⟨S4x16x256x4x64, .f32⟩
  | 65 => ⟨S4x16x4x256x128x8, .f32⟩
  | 66 => ⟨S4x16x4x8x128x256, .f32⟩
  | 67 => ⟨S_, .f32⟩
  | 68 => ⟨S4x16x4x8x128x256, .f32⟩
  | 69 => ⟨S4x16x4x8x128x256, .f32⟩
  | 70 => ⟨S128, .i32⟩
  | 71 => ⟨S128x1, .i32⟩
  | 72 => ⟨S256, .i32⟩
  | 73 => ⟨S1x256, .i32⟩
  | 74 => ⟨S_, .i32⟩
  | 75 => ⟨S128x1, .i32⟩
  | 76 => ⟨S128x1, .i32⟩
  | 77 => ⟨S128x256, .i32⟩
  | 78 => ⟨S128x256, .i32⟩
  | 79 => ⟨S128x256, .i32⟩
  | 80 => ⟨S_, .i32⟩
  | 81 => ⟨S128x256, .i32⟩
  | 82 => ⟨S128x256, .i1⟩
  | 83 => ⟨S_, .i32⟩
  | 84 => ⟨S128x256, .i32⟩
  | 85 => ⟨S128x256, .i1⟩
  | 86 => ⟨S128x256, .i1⟩
  | 87 => ⟨S16, .i32⟩
  | 88 => ⟨S16x1x1, .i32⟩
  | 89 => ⟨S1x128x256, .i1⟩
  | 90 => ⟨S_, .i32⟩
  | 91 => ⟨S16x1x1, .i32⟩
  | 92 => ⟨S16x1x1, .i1⟩
  | 93 => ⟨S1x1x256, .i32⟩
  | 94 => ⟨S_, .i32⟩
  | 95 => ⟨S1x1x256, .i32⟩
  | 96 => ⟨S1x1x256, .i1⟩
  | 97 => ⟨S16x1x256, .i1⟩
  | 98 => ⟨S16x1x256, .i1⟩
  | 99 => ⟨S16x1x256, .i1⟩
  | 100 => ⟨S16x128x256, .i1⟩
  | 101 => ⟨S16x128x256, .i1⟩
  | 102 => ⟨S16x128x256, .i1⟩
  | 103 => ⟨S1x16x1x1x128x256, .i1⟩
  | 104 => ⟨S_, .f32⟩
  | 105 => ⟨S_, .f32⟩
  | 106 => ⟨S4x16x4x8x128x256, .i1⟩
  | 107 => ⟨S4x16x4x8x128x256, .f32⟩
  | 108 => ⟨S4x16x4x8x128x256, .f32⟩
  | 109 => ⟨S4x8, .f32⟩
  | 110 => ⟨S1x1x4x8x1x1, .f32⟩
  | 111 => ⟨S_, .f32⟩
  | 112 => ⟨S4x16x4x8x128, .f32⟩
  | 113 => ⟨S4x16x4x8x128x1, .f32⟩
  | 114 => ⟨S4x16x4x8x128x1, .f32⟩
  | 115 => ⟨S4x16x4x8x128x1, .f32⟩
  | 116 => ⟨S4x16x4x8x128x256, .f32⟩
  | 117 => ⟨S4x16x4x8x128x256, .f32⟩
  | 118 => ⟨S4x16x4x8x128x256, .f32⟩
  | 119 => ⟨S_, .f32⟩
  | 120 => ⟨S4x16x4x8x128, .f32⟩
  | 121 => ⟨S4x16x4x8x128x1, .f32⟩
  | 122 => ⟨S4x16x4x8x128x1, .f32⟩
  | 123 => ⟨S4x16x4x8x128x1, .f32⟩
  | 124 => ⟨S4x16x4x8x128x1, .f32⟩
  | 125 => ⟨S4x16x4x8x128x1, .f32⟩
  | 126 => ⟨S4x16x4x8x128x256, .f32⟩
  | 127 => ⟨S4x16x4x8x128x256, .f32⟩
  | _ => ⟨S8192x10752, .bf16⟩

abbrev hbmTy0_1 (i : Nat) : BufTy := match i % 128 with
  | 0 => ⟨S4x16x4x64x8x128, .f32⟩
  | 1 => ⟨S4x16x128x4x8x64, .f32⟩
  | 2 => ⟨S4x2048x2048, .f32⟩
  | 3 => ⟨S_, .i32⟩
  | 4 => ⟨S_, .f32⟩
  | 5 => ⟨S4x2051x1024, .f32⟩
  | 6 => ⟨S4x2048x1024, .f32⟩
  | 7 => ⟨S1x1024, .f32⟩
  | 8 => ⟨S1024, .f32⟩
  | 9 => ⟨S1x1x1024, .f32⟩
  | 10 => ⟨S4x2048x1024, .f32⟩
  | 11 => ⟨S4x2048x1024, .f32⟩
  | 12 => ⟨S4x2048x1024, .f32⟩
  | 13 => ⟨S1x1024, .f32⟩
  | 14 => ⟨S1024, .f32⟩
  | 15 => ⟨S1x1x1024, .f32⟩
  | 16 => ⟨S4x2048x1024, .f32⟩
  | 17 => ⟨S4x2048x1024, .f32⟩
  | 18 => ⟨S4x2048x1024, .f32⟩
  | 19 => ⟨S4x2048x1024, .f32⟩
  | 20 => ⟨S1x1024, .f32⟩
  | 21 => ⟨S1024, .f32⟩
  | 22 => ⟨S1x1x1024, .f32⟩
  | 23 => ⟨S4x2048x1024, .f32⟩
  | 24 => ⟨S4x2048x1024, .f32⟩
  | 25 => ⟨S4x2048x1024, .f32⟩
  | 26 => ⟨S4x2048x1024, .f32⟩
  | 27 => ⟨S1x1024, .f32⟩
  | 28 => ⟨S1024, .f32⟩
  | 29 => ⟨S1x1x1024, .f32⟩
  | 30 => ⟨S4x2048x1024, .f32⟩
  | 31 => ⟨S4x2048x1024, .f32⟩
  | 32 => ⟨S4x2048x1024, .f32⟩
  | 33 => ⟨S1x1x1024, .f32⟩
  | 34 => ⟨S4x2048x1024, .f32⟩
  | 35 => ⟨S4x2048x1024, .f32⟩
  | 36 => ⟨S8x128x256, .f32⟩
  | 37 => ⟨S8x128x128, .f32⟩
  | 38 => ⟨S8x128x128, .f32⟩
  | 39 => ⟨S4x2048x8x128, .f32⟩
  | 40 => ⟨S8x128x4x2048, .f32⟩
  | 41 => ⟨S4x2048x8x128, .f32⟩
  | 42 => ⟨S4x2048x1024, .f32⟩
  | 43 => ⟨S1x1x1024, .f32⟩
  | 44 => ⟨S4x2048x1024, .f32⟩
  | 45 => ⟨S4x2048x1024, .f32⟩
  | 46 => ⟨S4x2048x1024, .f32⟩
  | 47 => ⟨S4x2048x1024, .f32⟩
  | 48 => ⟨S_, .f32⟩
  | 49 => ⟨S4x2048x1024, .f32⟩
  | 50 => ⟨S4x2048x1024, .f32⟩
  | 51 => ⟨S_, .f32⟩
  | 52 => ⟨S4x2048x1024, .f32⟩
  | 53 => ⟨S4x2048x1024, .f32⟩
  | 54 => ⟨S8x128x4x2048, .f32⟩
  | 55 => ⟨S4x2048x8x128, .f32⟩
  | 56 => ⟨S4x2048x1024, .f32⟩
  | 57 => ⟨S1x1x1024, .f32⟩
  | 58 => ⟨S4x2048x1024, .f32⟩
  | 59 => ⟨S4x2048x1024, .f32⟩
  | 60 => ⟨S4x2048x1024, .f32⟩
  | 61 => ⟨S4x2048x1024, .f32⟩
  | 62 => ⟨S_, .f32⟩
  | 63 => ⟨S4x2048x1024, .f32⟩
  | 64 => ⟨S4x2048x1024, .f32⟩
  | 65 => ⟨S_, .f32⟩
  | 66 => ⟨S4x2048x1024, .f32⟩
  | 67 => ⟨S4x2048x1024, .f32⟩
  | 68 => ⟨S_, .f32⟩
  | 69 => ⟨S4x2048x1024, .f32⟩
  | 70 => ⟨S4x2048x1024, .f32⟩
  | 71 => ⟨S1024, .f32⟩
  | 72 => ⟨S_, .f32⟩
  | 73 => ⟨S1024, .f32⟩
  | 74 => ⟨S1024, .f32⟩
  | 75 => ⟨S1024, .f32⟩
  | 76 => ⟨S1024, .f32⟩
  | 77 => ⟨S1024, .i1⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1x1x1024, .f32⟩
  | 88 => ⟨S4x2048x1024, .f32⟩
  | 89 => ⟨S4x2048x1024, .f32⟩
  | 90 => ⟨S4x2048x1024, .f32⟩
  | 91 => ⟨S_, .f32⟩
  | 92 => ⟨S4x2048x1024, .f32⟩
  | 93 => ⟨S4x2048x1024, .f32⟩
  | 94 => ⟨S4x2048x1024, .f32⟩
  | 95 => ⟨S4x2048x1024, .f32⟩
  | 96 => ⟨S4x2048x1024, .f32⟩
  | 97 => ⟨S4x2048x1024, .f32⟩
  | 98 => ⟨S4x2048x1024, .f32⟩
  | 99 => ⟨S4x1024x1024, .f32⟩
  | 100 => ⟨S4x1024x1024, .f32⟩
  | 101 => ⟨S4x1024x1024, .f32⟩
  | 102 => ⟨S4x1024x1024, .f32⟩
  | 103 => ⟨S4x1024x1024, .f32⟩
  | 104 => ⟨S4x1024x1024, .f32⟩
  | 105 => ⟨S4x1024x1024, .f32⟩
  | 106 => ⟨S4x512x1024, .f32⟩
  | 107 => ⟨S4x512x1024, .f32⟩
  | 108 => ⟨S4x512x1024, .f32⟩
  | 109 => ⟨S4x512x1024, .f32⟩
  | 110 => ⟨S4x512x1024, .f32⟩
  | 111 => ⟨S4x512x1024, .f32⟩
  | 112 => ⟨S4x512x1024, .f32⟩
  | 113 => ⟨S4x256x1024, .f32⟩
  | 114 => ⟨S4x256x1024, .f32⟩
  | 115 => ⟨S4x256x1024, .f32⟩
  | 116 => ⟨S4x256x1024, .f32⟩
  | 117 => ⟨S4x256x1024, .f32⟩
  | 118 => ⟨S4x256x1024, .f32⟩
  | 119 => ⟨S4x256x1024, .f32⟩
  | 120 => ⟨S4x128x1024, .f32⟩
  | 121 => ⟨S4x128x1024, .f32⟩
  | 122 => ⟨S4x128x1024, .f32⟩
  | 123 => ⟨S4x128x1024, .f32⟩
  | 124 => ⟨S4x128x1024, .f32⟩
  | 125 => ⟨S4x128x1024, .f32⟩
  | 126 => ⟨S4x128x1024, .f32⟩
  | 127 => ⟨S4x64x1024, .f32⟩
  | _ => ⟨S8192x10752, .bf16⟩

abbrev hbmTy0_2 (i : Nat) : BufTy := match i % 128 with
  | 0 => ⟨S4x64x1024, .f32⟩
  | 1 => ⟨S4x64x1024, .f32⟩
  | 2 => ⟨S4x64x1024, .f32⟩
  | 3 => ⟨S4x64x1024, .f32⟩
  | 4 => ⟨S4x64x1024, .f32⟩
  | 5 => ⟨S4x64x1024, .f32⟩
  | 6 => ⟨S4x32x1024, .f32⟩
  | 7 => ⟨S4x32x1024, .f32⟩
  | 8 => ⟨S4x32x1024, .f32⟩
  | 9 => ⟨S4x32x1024, .f32⟩
  | 10 => ⟨S4x32x1024, .f32⟩
  | 11 => ⟨S4x32x1024, .f32⟩
  | 12 => ⟨S4x32x1024, .f32⟩
  | 13 => ⟨S4x16x1024, .f32⟩
  | 14 => ⟨S4x16x1024, .f32⟩
  | 15 => ⟨S4x16x1024, .f32⟩
  | 16 => ⟨S4x16x1024, .f32⟩
  | 17 => ⟨S4x16x1024, .f32⟩
  | 18 => ⟨S4x16x1024, .f32⟩
  | 19 => ⟨S4x16x1024, .f32⟩
  | 20 => ⟨S4x8x1024, .f32⟩
  | 21 => ⟨S4x8x1024, .f32⟩
  | 22 => ⟨S4x8x1024, .f32⟩
  | 23 => ⟨S4x8x1024, .f32⟩
  | 24 => ⟨S4x8x1024, .f32⟩
  | 25 => ⟨S4x8x1024, .f32⟩
  | 26 => ⟨S4x8x1024, .f32⟩
  | 27 => ⟨S4x4x1024, .f32⟩
  | 28 => ⟨S4x4x1024, .f32⟩
  | 29 => ⟨S4x4x1024, .f32⟩
  | 30 => ⟨S4x4x1024, .f32⟩
  | 31 => ⟨S4x4x1024, .f32⟩
  | 32 => ⟨S4x4x1024, .f32⟩
  | 33 => ⟨S4x4x1024, .f32⟩
  | 34 => ⟨S4x2x1024, .f32⟩
  | 35 => ⟨S4x2x1024, .f32⟩
  | 36 => ⟨S4x2x1024, .f32⟩
  | 37 => ⟨S4x2x1024, .f32⟩
  | 38 => ⟨S4x2x1024, .f32⟩
  | 39 => ⟨S4x2x1024, .f32⟩
  | 40 => ⟨S4x2x1024, .f32⟩
  | 41 => ⟨S4x1x1024, .f32⟩
  | 42 => ⟨S4x1x1024, .f32⟩
  | 43 => ⟨S4x1x1024, .f32⟩
  | 44 => ⟨S4x1x1024, .f32⟩
  | 45 => ⟨S4x1x1024, .f32⟩
  | 46 => ⟨S4x1x1024, .f32⟩
  | 47 => ⟨S4x1x1024, .f32⟩
  | 48 => ⟨S4x0x1024, .f32⟩
  | 49 => ⟨S4x0x1024, .f32⟩
  | 50 => ⟨S4x0x1024, .f32⟩
  | 51 => ⟨S4x0x1024, .f32⟩
  | 52 => ⟨S4x0x1024, .f32⟩
  | 53 => ⟨S4x0x1024, .f32⟩
  | 54 => ⟨S4x0x1024, .f32⟩
  | 55 => ⟨S4x1x1024, .f32⟩
  | 56 => ⟨S4x1x1024, .f32⟩
  | 57 => ⟨S4x1x1024, .f32⟩
  | 58 => ⟨S4x1x1024, .f32⟩
  | 59 => ⟨S_, .f32⟩
  | 60 => ⟨S4x2x1024, .f32⟩
  | 61 => ⟨S_, .f32⟩
  | 62 => ⟨S4x2x1024, .f32⟩
  | 63 => ⟨S4x2x1024, .f32⟩
  | 64 => ⟨S_, .f32⟩
  | 65 => ⟨S4x2x1024, .f32⟩
  | 66 => ⟨S_, .f32⟩
  | 67 => ⟨S4x2x1024, .f32⟩
  | 68 => ⟨S4x2x1024, .f32⟩
  | 69 => ⟨S4x1x1024, .f32⟩
  | 70 => ⟨S4x1x1024, .f32⟩
  | 71 => ⟨S4x1x1024, .f32⟩
  | 72 => ⟨S4x1x1024, .f32⟩
  | 73 => ⟨S4x1x1024, .f32⟩
  | 74 => ⟨S4x1x1024, .f32⟩
  | 75 => ⟨S4x1x1024, .f32⟩
  | 76 => ⟨S4x1x1024, .f32⟩
  | 77 => ⟨S4x2x1024, .f32⟩
  | 78 => ⟨S4x1x1024, .f32⟩
  | 79 => ⟨S4x2x1024, .f32⟩
  | 80 => ⟨S_, .f32⟩
  | 81 => ⟨S4x4x1024, .f32⟩
  | 82 => ⟨S_, .f32⟩
  | 83 => ⟨S4x4x1024, .f32⟩
  | 84 => ⟨S4x4x1024, .f32⟩
  | 85 => ⟨S_, .f32⟩
  | 86 => ⟨S4x4x1024, .f32⟩
  | 87 => ⟨S_, .f32⟩
  | 88 => ⟨S4x4x1024, .f32⟩
  | 89 => ⟨S4x4x1024, .f32⟩
  | 90 => ⟨S4x3x1024, .f32⟩
  | 91 => ⟨S4x3x1024, .f32⟩
  | 92 => ⟨S4x3x1024, .f32⟩
  | 93 => ⟨S4x3x1024, .f32⟩
  | 94 => ⟨S4x3x1024, .f32⟩
  | 95 => ⟨S4x3x1024, .f32⟩
  | 96 => ⟨S4x3x1024, .f32⟩
  | 97 => ⟨S4x1x1024, .f32⟩
  | 98 => ⟨S4x4x1024, .f32⟩
  | 99 => ⟨S4x1x1024, .f32⟩
  | 100 => ⟨S4x4x1024, .f32⟩
  | 101 => ⟨S_, .f32⟩
  | 102 => ⟨S4x8x1024, .f32⟩
  | 103 => ⟨S_, .f32⟩
  | 104 => ⟨S4x8x1024, .f32⟩
  | 105 => ⟨S4x8x1024, .f32⟩
  | 106 => ⟨S_, .f32⟩
  | 107 => ⟨S4x8x1024, .f32⟩
  | 108 => ⟨S_, .f32⟩
  | 109 => ⟨S4x8x1024, .f32⟩
  | 110 => ⟨S4x8x1024, .f32⟩
  | 111 => ⟨S4x7x1024, .f32⟩
  | 112 => ⟨S4x7x1024, .f32⟩
  | 113 => ⟨S4x7x1024, .f32⟩
  | 114 => ⟨S4x7x1024, .f32⟩
  | 115 => ⟨S4x7x1024, .f32⟩
  | 116 => ⟨S4x7x1024, .f32⟩
  | 117 => ⟨S4x7x1024, .f32⟩
  | 118 => ⟨S4x1x1024, .f32⟩
  | 119 => ⟨S4x8x1024, .f32⟩
  | 120 => ⟨S4x1x1024, .f32⟩
  | 121 => ⟨S4x8x1024, .f32⟩
  | 122 => ⟨S_, .f32⟩
  | 123 => ⟨S4x16x1024, .f32⟩
  | 124 => ⟨S_, .f32⟩
  | 125 => ⟨S4x16x1024, .f32⟩
  | 126 => ⟨S4x16x1024, .f32⟩
  | 127 => ⟨S_, .f32⟩
  | _ => ⟨S8192x10752, .bf16⟩

abbrev hbmTy0_3 (i : Nat) : BufTy := match i % 128 with
  | 0 => ⟨S4x16x1024, .f32⟩
  | 1 => ⟨S_, .f32⟩
  | 2 => ⟨S4x16x1024, .f32⟩
  | 3 => ⟨S4x16x1024, .f32⟩
  | 4 => ⟨S4x15x1024, .f32⟩
  | 5 => ⟨S4x15x1024, .f32⟩
  | 6 => ⟨S4x15x1024, .f32⟩
  | 7 => ⟨S4x15x1024, .f32⟩
  | 8 => ⟨S4x15x1024, .f32⟩
  | 9 => ⟨S4x15x1024, .f32⟩
  | 10 => ⟨S4x15x1024, .f32⟩
  | 11 => ⟨S4x1x1024, .f32⟩
  | 12 => ⟨S4x16x1024, .f32⟩
  | 13 => ⟨S4x1x1024, .f32⟩
  | 14 => ⟨S4x16x1024, .f32⟩
  | 15 => ⟨S_, .f32⟩
  | 16 => ⟨S4x32x1024, .f32⟩
  | 17 => ⟨S_, .f32⟩
  | 18 => ⟨S4x32x1024, .f32⟩
  | 19 => ⟨S4x32x1024, .f32⟩
  | 20 => ⟨S_, .f32⟩
  | 21 => ⟨S4x32x1024, .f32⟩
  | 22 => ⟨S_, .f32⟩
  | 23 => ⟨S4x32x1024, .f32⟩
  | 24 => ⟨S4x32x1024, .f32⟩
  | 25 => ⟨S4x31x1024, .f32⟩
  | 26 => ⟨S4x31x1024, .f32⟩
  | 27 => ⟨S4x31x1024, .f32⟩
  | 28 => ⟨S4x31x1024, .f32⟩
  | 29 => ⟨S4x31x1024, .f32⟩
  | 30 => ⟨S4x31x1024, .f32⟩
  | 31 => ⟨S4x31x1024, .f32⟩
  | 32 => ⟨S4x1x1024, .f32⟩
  | 33 => ⟨S4x32x1024, .f32⟩
  | 34 => ⟨S4x1x1024, .f32⟩
  | 35 => ⟨S4x32x1024, .f32⟩
  | 36 => ⟨S_, .f32⟩
  | 37 => ⟨S4x64x1024, .f32⟩
  | 38 => ⟨S_, .f32⟩
  | 39 => ⟨S4x64x1024, .f32⟩
  | 40 => ⟨S4x64x1024, .f32⟩
  | 41 => ⟨S_, .f32⟩
  | 42 => ⟨S4x64x1024, .f32⟩
  | 43 => ⟨S_, .f32⟩
  | 44 => ⟨S4x64x1024, .f32⟩
  | 45 => ⟨S4x64x1024, .f32⟩
  | 46 => ⟨S4x63x1024, .f32⟩
  | 47 => ⟨S4x63x1024, .f32⟩
  | 48 => ⟨S4x63x1024, .f32⟩
  | 49 => ⟨S4x63x1024, .f32⟩
  | 50 => ⟨S4x63x1024, .f32⟩
  | 51 => ⟨S4x63x1024, .f32⟩
  | 52 => ⟨S4x63x1024, .f32⟩
  | 53 => ⟨S4x1x1024, .f32⟩
  | 54 => ⟨S4x64x1024, .f32⟩
  | 55 => ⟨S4x1x1024, .f32⟩
  | 56 => ⟨S4x64x1024, .f32⟩
  | 57 => ⟨S_, .f32⟩
  | 58 => ⟨S4x128x1024, .f32⟩
  | 59 => ⟨S_, .f32⟩
  | 60 => ⟨S4x128x1024, .f32⟩
  | 61 => ⟨S4x128x1024, .f32⟩
  | 62 => ⟨S_, .f32⟩
  | 63 => ⟨S4x128x1024, .f32⟩
  | 64 => ⟨S_, .f32⟩
  | 65 => ⟨S4x128x1024, .f32⟩
  | 66 => ⟨S4x128x1024, .f32⟩
  | 67 => ⟨S4x127x1024, .f32⟩
  | 68 => ⟨S4x127x1024, .f32⟩
  | 69 => ⟨S4x127x1024, .f32⟩
  | 70 => ⟨S4x127x1024, .f32⟩
  | 71 => ⟨S4x127x1024, .f32⟩
  | 72 => ⟨S4x127x1024, .f32⟩
  | 73 => ⟨S4x127x1024, .f32⟩
  | 74 => ⟨S4x1x1024, .f32⟩
  | 75 => ⟨S4x128x1024, .f32⟩
  | 76 => ⟨S4x1x1024, .f32⟩
  | 77 => ⟨S4x128x1024, .f32⟩
  | 78 => ⟨S_, .f32⟩
  | 79 => ⟨S4x256x1024, .f32⟩
  | 80 => ⟨S_, .f32⟩
  | 81 => ⟨S4x256x1024, .f32⟩
  | 82 => ⟨S4x256x1024, .f32⟩
  | 83 => ⟨S_, .f32⟩
  | 84 => ⟨S4x256x1024, .f32⟩
  | 85 => ⟨S_, .f32⟩
  | 86 => ⟨S4x256x1024, .f32⟩
  | 87 => ⟨S4x256x1024, .f32⟩
  | 88 => ⟨S4x255x1024, .f32⟩
  | 89 => ⟨S4x255x1024, .f32⟩
  | 90 => ⟨S4x255x1024, .f32⟩
  | 91 => ⟨S4x255x1024, .f32⟩
  | 92 => ⟨S4x255x1024, .f32⟩
  | 93 => ⟨S4x255x1024, .f32⟩
  | 94 => ⟨S4x255x1024, .f32⟩
  | 95 => ⟨S4x1x1024, .f32⟩
  | 96 => ⟨S4x256x1024, .f32⟩
  | 97 => ⟨S4x1x1024, .f32⟩
  | 98 => ⟨S4x256x1024, .f32⟩
  | 99 => ⟨S_, .f32⟩
  | 100 => ⟨S4x512x1024, .f32⟩
  | 101 => ⟨S_, .f32⟩
  | 102 => ⟨S4x512x1024, .f32⟩
  | 103 => ⟨S4x512x1024, .f32⟩
  | 104 => ⟨S_, .f32⟩
  | 105 => ⟨S4x512x1024, .f32⟩
  | 106 => ⟨S_, .f32⟩
  | 107 => ⟨S4x512x1024, .f32⟩
  | 108 => ⟨S4x512x1024, .f32⟩
  | 109 => ⟨S4x511x1024, .f32⟩
  | 110 => ⟨S4x511x1024, .f32⟩
  | 111 => ⟨S4x511x1024, .f32⟩
  | 112 => ⟨S4x511x1024, .f32⟩
  | 113 => ⟨S4x511x1024, .f32⟩
  | 114 => ⟨S4x511x1024, .f32⟩
  | 115 => ⟨S4x511x1024, .f32⟩
  | 116 => ⟨S4x1x1024, .f32⟩
  | 117 => ⟨S4x512x1024, .f32⟩
  | 118 => ⟨S4x1x1024, .f32⟩
  | 119 => ⟨S4x512x1024, .f32⟩
  | 120 => ⟨S_, .f32⟩
  | 121 => ⟨S4x1024x1024, .f32⟩
  | 122 => ⟨S_, .f32⟩
  | 123 => ⟨S4x1024x1024, .f32⟩
  | 124 => ⟨S4x1024x1024, .f32⟩
  | 125 => ⟨S_, .f32⟩
  | 126 => ⟨S4x1024x1024, .f32⟩
  | 127 => ⟨S_, .f32⟩
  | _ => ⟨S8192x10752, .bf16⟩

abbrev hbmTy0_4 (i : Nat) : BufTy := match i % 128 with
  | 0 => ⟨S4x1024x1024, .f32⟩
  | 1 => ⟨S4x1024x1024, .f32⟩
  | 2 => ⟨S4x1023x1024, .f32⟩
  | 3 => ⟨S4x1023x1024, .f32⟩
  | 4 => ⟨S4x1023x1024, .f32⟩
  | 5 => ⟨S4x1023x1024, .f32⟩
  | 6 => ⟨S4x1023x1024, .f32⟩
  | 7 => ⟨S4x1023x1024, .f32⟩
  | 8 => ⟨S4x1023x1024, .f32⟩
  | 9 => ⟨S4x1x1024, .f32⟩
  | 10 => ⟨S4x1024x1024, .f32⟩
  | 11 => ⟨S4x1x1024, .f32⟩
  | 12 => ⟨S4x1024x1024, .f32⟩
  | 13 => ⟨S_, .f32⟩
  | 14 => ⟨S4x2048x1024, .f32⟩
  | 15 => ⟨S_, .f32⟩
  | 16 => ⟨S4x2048x1024, .f32⟩
  | 17 => ⟨S4x2048x1024, .f32⟩
  | 18 => ⟨S_, .f32⟩
  | 19 => ⟨S4x2048x1024, .f32⟩
  | 20 => ⟨S_, .f32⟩
  | 21 => ⟨S4x2048x1024, .f32⟩
  | 22 => ⟨S4x2048x1024, .f32⟩
  | 23 => ⟨S4x2048x1024, .f32⟩
  | 24 => ⟨S_, .f32⟩
  | 25 => ⟨S4x2048, .f32⟩
  | 26 => ⟨S4x2048x1, .f32⟩
  | 27 => ⟨S_, .f32⟩
  | 28 => ⟨S4x2048x1, .f32⟩
  | 29 => ⟨S4x2048x1, .f32⟩
  | 30 => ⟨S_, .f32⟩
  | 31 => ⟨S4x2048x1, .f32⟩
  | 32 => ⟨S4x2048x1, .f32⟩
  | 33 => ⟨S4x2048x1, .f32⟩
  | 34 => ⟨S4x2048x1024, .f32⟩
  | 35 => ⟨S4x2048x1024, .f32⟩
  | 36 => ⟨S1x1x1024, .f32⟩
  | 37 => ⟨S4x2048x1024, .f32⟩
  | 38 => ⟨S4x2048x1024, .f32⟩
  | 39 => ⟨S4x2048x1024, .f32⟩
  | 40 => ⟨S4x2048x1024, .f32⟩
  | 41 => ⟨S_, .f32⟩
  | 42 => ⟨S4x2048x1024, .f32⟩
  | 43 => ⟨S4x2048x1024, .f32⟩
  | 44 => ⟨S_, .f32⟩
  | 45 => ⟨S4x2048x1024, .f32⟩
  | 46 => ⟨S4x2048x1024, .f32⟩
  | 47 => ⟨S4x2048x1024, .f32⟩
  | 48 => ⟨S4x2048x1024, .f32⟩
  | 49 => ⟨S4x2048x2048, .f32⟩
  | 50 => ⟨S_, .f32⟩
  | 51 => ⟨S4x2048, .f32⟩
  | 52 => ⟨S4x2048x1, .f32⟩
  | 53 => ⟨S_, .f32⟩
  | 54 => ⟨S4x2048x1, .f32⟩
  | 55 => ⟨S4x2048x1, .f32⟩
  | 56 => ⟨S_, .f32⟩
  | 57 => ⟨S4x2048x1, .f32⟩
  | 58 => ⟨S4x2048x1, .f32⟩
  | 59 => ⟨S4x2048x1, .f32⟩
  | 60 => ⟨S4x2048x2048, .f32⟩
  | 61 => ⟨S4x2048x2048, .f32⟩
  | 62 => ⟨S1x1x2048, .f32⟩
  | 63 => ⟨S4x2048x2048, .f32⟩
  | 64 => ⟨S4x2048x2048, .f32⟩
  | 65 => ⟨S4x2048x2048, .f32⟩
  | 66 => ⟨S4x2048x2048, .f32⟩
  | 67 => ⟨S_, .f32⟩
  | 68 => ⟨S4x2048x2048, .f32⟩
  | 69 => ⟨S4x2048x2048, .f32⟩
  | 70 => ⟨S_, .f32⟩
  | 71 => ⟨S4x2048x2048, .f32⟩
  | 72 => ⟨S4x2048x2048, .f32⟩
  | 73 => ⟨S4x2048x2048, .f32⟩
  | 74 => ⟨S4x2048x2048, .f32⟩
  | 75 => ⟨S4x2048x1024, .f32⟩
  | 76 => ⟨S_, .f32⟩
  | 77 => ⟨S4x2048, .f32⟩
  | 78 => ⟨S4x2048x1, .f32⟩
  | 79 => ⟨S_, .f32⟩
  | 80 => ⟨S4x2048x1, .f32⟩
  | 81 => ⟨S4x2048x1, .f32⟩
  | 82 => ⟨S_, .f32⟩
  | 83 => ⟨S4x2048x1, .f32⟩
  | 84 => ⟨S4x2048x1, .f32⟩
  | 85 => ⟨S4x2048x1, .f32⟩
  | 86 => ⟨S4x2048x1024, .f32⟩
  | 87 => ⟨S4x2048x1024, .f32⟩
  | 88 => ⟨S1x1x1024, .f32⟩
  | 89 => ⟨S4x2048x1024, .f32⟩
  | 90 => ⟨S4x2048x1024, .f32⟩
  | 91 => ⟨S4x2048x1024, .f32⟩
  | 92 => ⟨S4x2048x1024, .f32⟩
  | 93 => ⟨S_, .f32⟩
  | 94 => ⟨S4x2048x1024, .f32⟩
  | 95 => ⟨S4x2048x1024, .f32⟩
  | 96 => ⟨S_, .f32⟩
  | 97 => ⟨S4x2048x1024, .f32⟩
  | 98 => ⟨S4x2048x1024, .f32⟩
  | 99 => ⟨S4x2048x1024, .f32⟩
  | 100 => ⟨S4x2048x1024, .f32⟩
  | 101 => ⟨S4x2048x4096, .f32⟩
  | 102 => ⟨S8192x4096, .f32⟩
  | 103 => ⟨S8192x4096, .bf16⟩
  | _ => ⟨S8192x10752, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x10752, .bf16⟩

abbrev bufTy : (tb : Table) → Fin (tcTables nBuf tb) → BufTy
  | .hbm, ⟨i, _⟩ => hbmTy i
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_0 : Ref sig .tc := ⟨.hbm, 54, rfl⟩
abbrev main_call1_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_1 : Ref sig .tc := ⟨.hbm, 60, rfl⟩
abbrev main_call2_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_2 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_3 : Ref sig .tc := ⟨.hbm, 80, rfl⟩
abbrev main_v60 : Ref sig .tc := ⟨.hbm, 81, rfl⟩
abbrev main_v61 : Ref sig .tc := ⟨.hbm, 82, rfl⟩
abbrev main_c_4 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_5 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_6 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_7 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_8 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_9 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_10 : Ref sig .tc := ⟨.hbm, 131, rfl⟩
abbrev main_call4_v0 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_11 : Ref sig .tc := ⟨.hbm, 176, rfl⟩
abbrev main_v144 : Ref sig .tc := ⟨.hbm, 177, rfl⟩
abbrev main_v145 : Ref sig .tc := ⟨.hbm, 178, rfl⟩
abbrev main_cst_12 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_cst_13 : Ref sig .tc := ⟨.hbm, 190, rfl⟩
abbrev main_v156 : Ref sig .tc := ⟨.hbm, 191, rfl⟩
abbrev main_v157 : Ref sig .tc := ⟨.hbm, 192, rfl⟩
abbrev main_cst_14 : Ref sig .tc := ⟨.hbm, 193, rfl⟩
abbrev main_v158 : Ref sig .tc := ⟨.hbm, 194, rfl⟩
abbrev main_v159 : Ref sig .tc := ⟨.hbm, 195, rfl⟩
abbrev main_cst_15 : Ref sig .tc := ⟨.hbm, 196, rfl⟩
abbrev main_v160 : Ref sig .tc := ⟨.hbm, 197, rfl⟩
abbrev main_v161 : Ref sig .tc := ⟨.hbm, 198, rfl⟩
abbrev main_call5_v0 : Ref sig .tc := ⟨.hbm, 199, rfl⟩
abbrev main_call5_call0_cst : Ref sig .tc := ⟨.hbm, 200, rfl⟩
abbrev main_call5_call0_v0 : Ref sig .tc := ⟨.hbm, 201, rfl⟩
abbrev main_call5_call0_v1 : Ref sig .tc := ⟨.hbm, 202, rfl⟩
abbrev main_call5_call0_v2 : Ref sig .tc := ⟨.hbm, 203, rfl⟩
abbrev main_call5_call0_v3 : Ref sig .tc := ⟨.hbm, 204, rfl⟩
abbrev main_call5_call0_v4 : Ref sig .tc := ⟨.hbm, 205, rfl⟩
abbrev main_call5_call0_v5 : Ref sig .tc := ⟨.hbm, 206, rfl⟩
abbrev main_call5_call0_v6 : Ref sig .tc := ⟨.hbm, 207, rfl⟩
abbrev main_call5_call0_v7 : Ref sig .tc := ⟨.hbm, 208, rfl⟩
abbrev main_call5_call0_v8 : Ref sig .tc := ⟨.hbm, 209, rfl⟩
abbrev main_call5_call0_v9 : Ref sig .tc := ⟨.hbm, 210, rfl⟩
abbrev main_call5_call0_v10 : Ref sig .tc := ⟨.hbm, 211, rfl⟩
abbrev main_call5_call0_v11 : Ref sig .tc := ⟨.hbm, 212, rfl⟩
abbrev main_call5_v1 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_16 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_cst_17 : Ref sig .tc := ⟨.hbm, 315, rfl⟩
abbrev main_v262 : Ref sig .tc := ⟨.hbm, 316, rfl⟩
abbrev main_cst_18 : Ref sig .tc := ⟨.hbm, 317, rfl⟩
abbrev main_v263 : Ref sig .tc := ⟨.hbm, 318, rfl⟩
abbrev main_v264 : Ref sig .tc := ⟨.hbm, 319, rfl⟩
abbrev main_cst_19 : Ref sig .tc := ⟨.hbm, 320, rfl⟩
abbrev main_v265 : Ref sig .tc := ⟨.hbm, 321, rfl⟩
abbrev main_cst_20 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_cst_21 : Ref sig .tc := ⟨.hbm, 336, rfl⟩
abbrev main_v279 : Ref sig .tc := ⟨.hbm, 337, rfl⟩
abbrev main_cst_22 : Ref sig .tc := ⟨.hbm, 338, rfl⟩
abbrev main_v280 : Ref sig .tc := ⟨.hbm, 339, rfl⟩
abbrev main_v281 : Ref sig .tc := ⟨.hbm, 340, rfl⟩
abbrev main_cst_23 : Ref sig .tc := ⟨.hbm, 341, rfl⟩
abbrev main_v282 : Ref sig .tc := ⟨.hbm, 342, rfl⟩
abbrev main_cst_24 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_cst_25 : Ref sig .tc := ⟨.hbm, 357, rfl⟩
abbrev main_v296 : Ref sig .tc := ⟨.hbm, 358, rfl⟩
abbrev main_cst_26 : Ref sig .tc := ⟨.hbm, 359, rfl⟩
abbrev main_v297 : Ref sig .tc := ⟨.hbm, 360, rfl⟩
abbrev main_v298 : Ref sig .tc := ⟨.hbm, 361, rfl⟩
abbrev main_cst_27 : Ref sig .tc := ⟨.hbm, 362, rfl⟩
abbrev main_v299 : Ref sig .tc := ⟨.hbm, 363, rfl⟩
abbrev main_cst_28 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_v312 : Ref sig .tc := ⟨.hbm, 377, rfl⟩
abbrev main_cst_29 : Ref sig .tc := ⟨.hbm, 378, rfl⟩
abbrev main_v313 : Ref sig .tc := ⟨.hbm, 379, rfl⟩
abbrev main_cst_30 : Ref sig .tc := ⟨.hbm, 380, rfl⟩
abbrev main_v314 : Ref sig .tc := ⟨.hbm, 381, rfl⟩
abbrev main_v315 : Ref sig .tc := ⟨.hbm, 382, rfl⟩
abbrev main_cst_31 : Ref sig .tc := ⟨.hbm, 383, rfl⟩
abbrev main_v316 : Ref sig .tc := ⟨.hbm, 384, rfl⟩
abbrev main_cst_32 : Ref sig .tc := ⟨.hbm, 385, rfl⟩
abbrev main_v317 : Ref sig .tc := ⟨.hbm, 386, rfl⟩
abbrev main_v318 : Ref sig .tc := ⟨.hbm, 387, rfl⟩
abbrev main_v319 : Ref sig .tc := ⟨.hbm, 388, rfl⟩
abbrev main_v320 : Ref sig .tc := ⟨.hbm, 389, rfl⟩
abbrev main_v321 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_cst_33 : Ref sig .tc := ⟨.hbm, 399, rfl⟩
abbrev main_v330 : Ref sig .tc := ⟨.hbm, 400, rfl⟩
abbrev main_cst_34 : Ref sig .tc := ⟨.hbm, 401, rfl⟩
abbrev main_v331 : Ref sig .tc := ⟨.hbm, 402, rfl⟩
abbrev main_v332 : Ref sig .tc := ⟨.hbm, 403, rfl⟩
abbrev main_cst_35 : Ref sig .tc := ⟨.hbm, 404, rfl⟩
abbrev main_v333 : Ref sig .tc := ⟨.hbm, 405, rfl⟩
abbrev main_cst_36 : Ref sig .tc := ⟨.hbm, 406, rfl⟩
abbrev main_v334 : Ref sig .tc := ⟨.hbm, 407, rfl⟩
abbrev main_v335 : Ref sig .tc := ⟨.hbm, 408, rfl⟩
abbrev main_v336 : Ref sig .tc := ⟨.hbm, 409, rfl⟩
abbrev main_v337 : Ref sig .tc := ⟨.hbm, 410, rfl⟩
abbrev main_v338 : Ref sig .tc := ⟨.hbm, 411, rfl⟩
abbrev main_v339 : Ref sig .tc := ⟨.hbm, 412, rfl⟩
abbrev main_v340 : Ref sig .tc := ⟨.hbm, 413, rfl⟩
abbrev main_v341 : Ref sig .tc := ⟨.hbm, 414, rfl⟩
abbrev main_v342 : Ref sig .tc := ⟨.hbm, 415, rfl⟩
abbrev main_v343 : Ref sig .tc := ⟨.hbm, 416, rfl⟩
abbrev main_v344 : Ref sig .tc := ⟨.hbm, 417, rfl⟩
abbrev main_v345 : Ref sig .tc := ⟨.hbm, 418, rfl⟩
abbrev main_v346 : Ref sig .tc := ⟨.hbm, 419, rfl⟩
abbrev main_cst_37 : Ref sig .tc := ⟨.hbm, 420, rfl⟩
abbrev main_v347 : Ref sig .tc := ⟨.hbm, 421, rfl⟩
abbrev main_cst_38 : Ref sig .tc := ⟨.hbm, 422, rfl⟩
abbrev main_v348 : Ref sig .tc := ⟨.hbm, 423, rfl⟩
abbrev main_v349 : Ref sig .tc := ⟨.hbm, 424, rfl⟩
abbrev main_cst_39 : Ref sig .tc := ⟨.hbm, 425, rfl⟩
abbrev main_v350 : Ref sig .tc := ⟨.hbm, 426, rfl⟩
abbrev main_cst_40 : Ref sig .tc := ⟨.hbm, 427, rfl⟩
abbrev main_v351 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_v355 : Ref sig .tc := ⟨.hbm, 432, rfl⟩
abbrev main_v356 : Ref sig .tc := ⟨.hbm, 433, rfl⟩
abbrev main_v357 : Ref sig .tc := ⟨.hbm, 434, rfl⟩
abbrev main_v358 : Ref sig .tc := ⟨.hbm, 435, rfl⟩
abbrev main_v359 : Ref sig .tc := ⟨.hbm, 436, rfl⟩
abbrev main_v360 : Ref sig .tc := ⟨.hbm, 437, rfl⟩
abbrev main_v361 : Ref sig .tc := ⟨.hbm, 438, rfl⟩
abbrev main_v362 : Ref sig .tc := ⟨.hbm, 439, rfl⟩
abbrev main_v363 : Ref sig .tc := ⟨.hbm, 440, rfl⟩
abbrev main_cst_41 : Ref sig .tc := ⟨.hbm, 441, rfl⟩
abbrev main_v364 : Ref sig .tc := ⟨.hbm, 442, rfl⟩
abbrev main_cst_42 : Ref sig .tc := ⟨.hbm, 443, rfl⟩
abbrev main_v365 : Ref sig .tc := ⟨.hbm, 444, rfl⟩
abbrev main_v366 : Ref sig .tc := ⟨.hbm, 445, rfl⟩
abbrev main_cst_43 : Ref sig .tc := ⟨.hbm, 446, rfl⟩
abbrev main_v367 : Ref sig .tc := ⟨.hbm, 447, rfl⟩
abbrev main_cst_44 : Ref sig .tc := ⟨.hbm, 448, rfl⟩
abbrev main_v368 : Ref sig .tc := ⟨.hbm, 449, rfl⟩
abbrev main_v369 : Ref sig .tc := ⟨.hbm, 450, rfl⟩
abbrev main_v370 : Ref sig .tc := ⟨.hbm, 451, rfl⟩
abbrev main_v371 : Ref sig .tc := ⟨.hbm, 452, rfl⟩
abbrev main_v372 : Ref sig .tc := ⟨.hbm, 453, rfl⟩
abbrev main_v373 : Ref sig .tc := ⟨.hbm, 454, rfl⟩
abbrev main_v374 : Ref sig .tc := ⟨.hbm, 455, rfl⟩
abbrev main_v375 : Ref sig .tc := ⟨.hbm, 456, rfl⟩
abbrev main_v376 : Ref sig .tc := ⟨.hbm, 457, rfl⟩
abbrev main_v377 : Ref sig .tc := ⟨.hbm, 458, rfl⟩
abbrev main_v378 : Ref sig .tc := ⟨.hbm, 459, rfl⟩
abbrev main_v379 : Ref sig .tc := ⟨.hbm, 460, rfl⟩
abbrev main_v380 : Ref sig .tc := ⟨.hbm, 461, rfl⟩
abbrev main_cst_45 : Ref sig .tc := ⟨.hbm, 462, rfl⟩
abbrev main_v381 : Ref sig .tc := ⟨.hbm, 463, rfl⟩
abbrev main_cst_46 : Ref sig .tc := ⟨.hbm, 464, rfl⟩
abbrev main_v382 : Ref sig .tc := ⟨.hbm, 465, rfl⟩
abbrev main_v383 : Ref sig .tc := ⟨.hbm, 466, rfl⟩
abbrev main_cst_47 : Ref sig .tc := ⟨.hbm, 467, rfl⟩
abbrev main_v384 : Ref sig .tc := ⟨.hbm, 468, rfl⟩
abbrev main_cst_48 : Ref sig .tc := ⟨.hbm, 469, rfl⟩
abbrev main_v385 : Ref sig .tc := ⟨.hbm, 470, rfl⟩
abbrev main_v386 : Ref sig .tc := ⟨.hbm, 471, rfl⟩
abbrev main_v387 : Ref sig .tc := ⟨.hbm, 472, rfl⟩
abbrev main_v388 : Ref sig .tc := ⟨.hbm, 473, rfl⟩
abbrev main_v389 : Ref sig .tc := ⟨.hbm, 474, rfl⟩
abbrev main_v390 : Ref sig .tc := ⟨.hbm, 475, rfl⟩
abbrev main_v391 : Ref sig .tc := ⟨.hbm, 476, rfl⟩
abbrev main_v392 : Ref sig .tc := ⟨.hbm, 477, rfl⟩
abbrev main_v393 : Ref sig .tc := ⟨.hbm, 478, rfl⟩
abbrev main_v394 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_cst_49 : Ref sig .tc := ⟨.hbm, 483, rfl⟩
abbrev main_v398 : Ref sig .tc := ⟨.hbm, 484, rfl⟩
abbrev main_cst_50 : Ref sig .tc := ⟨.hbm, 485, rfl⟩
abbrev main_v399 : Ref sig .tc := ⟨.hbm, 486, rfl⟩
abbrev main_v400 : Ref sig .tc := ⟨.hbm, 487, rfl⟩
abbrev main_cst_51 : Ref sig .tc := ⟨.hbm, 488, rfl⟩
abbrev main_v401 : Ref sig .tc := ⟨.hbm, 489, rfl⟩
abbrev main_cst_52 : Ref sig .tc := ⟨.hbm, 490, rfl⟩
abbrev main_v402 : Ref sig .tc := ⟨.hbm, 491, rfl⟩
abbrev main_v403 : Ref sig .tc := ⟨.hbm, 492, rfl⟩
abbrev main_v404 : Ref sig .tc := ⟨.hbm, 493, rfl⟩
abbrev main_v405 : Ref sig .tc := ⟨.hbm, 494, rfl⟩
abbrev main_v406 : Ref sig .tc := ⟨.hbm, 495, rfl⟩
abbrev main_v407 : Ref sig .tc := ⟨.hbm, 496, rfl⟩
abbrev main_v408 : Ref sig .tc := ⟨.hbm, 497, rfl⟩
abbrev main_v409 : Ref sig .tc := ⟨.hbm, 498, rfl⟩
abbrev main_v410 : Ref sig .tc := ⟨.hbm, 499, rfl⟩
abbrev main_v411 : Ref sig .tc := ⟨.hbm, 500, rfl⟩
abbrev main_v412 : Ref sig .tc := ⟨.hbm, 501, rfl⟩
abbrev main_v413 : Ref sig .tc := ⟨.hbm, 502, rfl⟩
abbrev main_v414 : Ref sig .tc := ⟨.hbm, 503, rfl⟩
abbrev main_cst_53 : Ref sig .tc := ⟨.hbm, 504, rfl⟩
abbrev main_v415 : Ref sig .tc := ⟨.hbm, 505, rfl⟩
abbrev main_cst_54 : Ref sig .tc := ⟨.hbm, 506, rfl⟩
abbrev main_v416 : Ref sig .tc := ⟨.hbm, 507, rfl⟩
abbrev main_v417 : Ref sig .tc := ⟨.hbm, 508, rfl⟩
abbrev main_cst_55 : Ref sig .tc := ⟨.hbm, 509, rfl⟩
abbrev main_v418 : Ref sig .tc := ⟨.hbm, 510, rfl⟩
abbrev main_cst_56 : Ref sig .tc := ⟨.hbm, 511, rfl⟩
abbrev main_v419 : Ref sig .tc := ⟨.hbm, 512, rfl⟩
abbrev main_v420 : Ref sig .tc := ⟨.hbm, 513, rfl⟩
abbrev main_v421 : Ref sig .tc := ⟨.hbm, 514, rfl⟩
abbrev main_v422 : Ref sig .tc := ⟨.hbm, 515, rfl⟩
abbrev main_v423 : Ref sig .tc := ⟨.hbm, 516, rfl⟩
abbrev main_v424 : Ref sig .tc := ⟨.hbm, 517, rfl⟩
abbrev main_v425 : Ref sig .tc := ⟨.hbm, 518, rfl⟩
abbrev main_v426 : Ref sig .tc := ⟨.hbm, 519, rfl⟩
abbrev main_v427 : Ref sig .tc := ⟨.hbm, 520, rfl⟩
abbrev main_v428 : Ref sig .tc := ⟨.hbm, 521, rfl⟩
abbrev main_v429 : Ref sig .tc := ⟨.hbm, 522, rfl⟩
abbrev main_v430 : Ref sig .tc := ⟨.hbm, 523, rfl⟩
abbrev main_v431 : Ref sig .tc := ⟨.hbm, 524, rfl⟩
abbrev main_cst_57 : Ref sig .tc := ⟨.hbm, 525, rfl⟩
abbrev main_v432 : Ref sig .tc := ⟨.hbm, 526, rfl⟩
abbrev main_cst_58 : Ref sig .tc := ⟨.hbm, 527, rfl⟩
abbrev main_v433 : Ref sig .tc := ⟨.hbm, 528, rfl⟩
abbrev main_v434 : Ref sig .tc := ⟨.hbm, 529, rfl⟩
abbrev main_cst_59 : Ref sig .tc := ⟨.hbm, 530, rfl⟩
abbrev main_v435 : Ref sig .tc := ⟨.hbm, 531, rfl⟩
abbrev main_cst_60 : Ref sig .tc := ⟨.hbm, 532, rfl⟩
abbrev main_v436 : Ref sig .tc := ⟨.hbm, 533, rfl⟩
abbrev main_v437 : Ref sig .tc := ⟨.hbm, 534, rfl⟩
abbrev main_v438 : Ref sig .tc := ⟨.hbm, 535, rfl⟩
abbrev main_cst_61 : Ref sig .tc := ⟨.hbm, 536, rfl⟩
abbrev main_v439 : Ref sig .tc := ⟨.hbm, 537, rfl⟩
abbrev main_v440 : Ref sig .tc := ⟨.hbm, 538, rfl⟩
abbrev main_cst_62 : Ref sig .tc := ⟨.hbm, 539, rfl⟩
abbrev main_v441 : Ref sig .tc := ⟨.hbm, 540, rfl⟩
abbrev main_v442 : Ref sig .tc := ⟨.hbm, 541, rfl⟩
abbrev main_cst_63 : Ref sig .tc := ⟨.hbm, 542, rfl⟩
abbrev main_v443 : Ref sig .tc := ⟨.hbm, 543, rfl⟩
abbrev main_v444 : Ref sig .tc := ⟨.hbm, 544, rfl⟩
abbrev main_v445 : Ref sig .tc := ⟨.hbm, 545, rfl⟩
abbrev main_v446 : Ref sig .tc := ⟨.hbm, 546, rfl⟩
abbrev main_v447 : Ref sig .tc := ⟨.hbm, 547, rfl⟩
abbrev main_v448 : Ref sig .tc := ⟨.hbm, 548, rfl⟩
abbrev main_v449 : Ref sig .tc := ⟨.hbm, 549, rfl⟩
abbrev main_v450 : Ref sig .tc := ⟨.hbm, 550, rfl⟩
abbrev main_call6_v0 : Ref sig .tc := ⟨.hbm, 551, rfl⟩
abbrev main_call6_v1 : Ref sig .tc := ⟨.hbm, 552, rfl⟩
abbrev main_call6_cst : Ref sig .tc := ⟨.hbm, 553, rfl⟩
abbrev main_call6_v2 : Ref sig .tc := ⟨.hbm, 554, rfl⟩
abbrev main_call6_v3 : Ref sig .tc := ⟨.hbm, 555, rfl⟩
abbrev main_call6_cst_0 : Ref sig .tc := ⟨.hbm, 556, rfl⟩
abbrev main_call6_v4 : Ref sig .tc := ⟨.hbm, 557, rfl⟩
abbrev main_call6_v5 : Ref sig .tc := ⟨.hbm, 558, rfl⟩
abbrev main_v451 : Ref sig .tc := ⟨.hbm, 559, rfl⟩
abbrev main_v452 : Ref sig .tc := ⟨.hbm, 560, rfl⟩
abbrev main_v453 : Ref sig .tc := ⟨.hbm, 561, rfl⟩
abbrev main_cst_64 : Ref sig .tc := ⟨.hbm, 562, rfl⟩
abbrev main_v454 : Ref sig .tc := ⟨.hbm, 563, rfl⟩
abbrev main_v455 : Ref sig .tc := ⟨.hbm, 564, rfl⟩
abbrev main_cst_65 : Ref sig .tc := ⟨.hbm, 565, rfl⟩
abbrev main_v456 : Ref sig .tc := ⟨.hbm, 566, rfl⟩
abbrev main_v457 : Ref sig .tc := ⟨.hbm, 567, rfl⟩
abbrev main_cst_66 : Ref sig .tc := ⟨.hbm, 568, rfl⟩
abbrev main_v458 : Ref sig .tc := ⟨.hbm, 569, rfl⟩
abbrev main_v459 : Ref sig .tc := ⟨.hbm, 570, rfl⟩
abbrev main_v460 : Ref sig .tc := ⟨.hbm, 571, rfl⟩
abbrev main_v461 : Ref sig .tc := ⟨.hbm, 572, rfl⟩
abbrev main_v462 : Ref sig .tc := ⟨.hbm, 573, rfl⟩
abbrev main_v463 : Ref sig .tc := ⟨.hbm, 574, rfl⟩
abbrev main_v464 : Ref sig .tc := ⟨.hbm, 575, rfl⟩
abbrev main_v465 : Ref sig .tc := ⟨.hbm, 576, rfl⟩
abbrev main_call7_v0 : Ref sig .tc := ⟨.hbm, 577, rfl⟩
abbrev main_call7_v1 : Ref sig .tc := ⟨.hbm, 578, rfl⟩
abbrev main_call7_cst : Ref sig .tc := ⟨.hbm, 579, rfl⟩
abbrev main_call7_v2 : Ref sig .tc := ⟨.hbm, 580, rfl⟩
abbrev main_call7_v3 : Ref sig .tc := ⟨.hbm, 581, rfl⟩
abbrev main_call7_cst_0 : Ref sig .tc := ⟨.hbm, 582, rfl⟩
abbrev main_call7_v4 : Ref sig .tc := ⟨.hbm, 583, rfl⟩
abbrev main_call7_v5 : Ref sig .tc := ⟨.hbm, 584, rfl⟩
abbrev main_v466 : Ref sig .tc := ⟨.hbm, 585, rfl⟩
abbrev main_v467 : Ref sig .tc := ⟨.hbm, 586, rfl⟩
abbrev main_v468 : Ref sig .tc := ⟨.hbm, 587, rfl⟩
abbrev main_cst_67 : Ref sig .tc := ⟨.hbm, 588, rfl⟩
abbrev main_v469 : Ref sig .tc := ⟨.hbm, 589, rfl⟩
abbrev main_v470 : Ref sig .tc := ⟨.hbm, 590, rfl⟩
abbrev main_cst_68 : Ref sig .tc := ⟨.hbm, 591, rfl⟩
abbrev main_v471 : Ref sig .tc := ⟨.hbm, 592, rfl⟩
abbrev main_v472 : Ref sig .tc := ⟨.hbm, 593, rfl⟩
abbrev main_cst_69 : Ref sig .tc := ⟨.hbm, 594, rfl⟩
abbrev main_v473 : Ref sig .tc := ⟨.hbm, 595, rfl⟩
abbrev main_v474 : Ref sig .tc := ⟨.hbm, 596, rfl⟩
abbrev main_v475 : Ref sig .tc := ⟨.hbm, 597, rfl⟩
abbrev main_v476 : Ref sig .tc := ⟨.hbm, 598, rfl⟩
abbrev main_v477 : Ref sig .tc := ⟨.hbm, 599, rfl⟩
abbrev main_v478 : Ref sig .tc := ⟨.hbm, 600, rfl⟩
abbrev main_v479 : Ref sig .tc := ⟨.hbm, 601, rfl⟩
abbrev main_v480 : Ref sig .tc := ⟨.hbm, 602, rfl⟩
abbrev main_call8_v0 : Ref sig .tc := ⟨.hbm, 603, rfl⟩
abbrev main_call8_v1 : Ref sig .tc := ⟨.hbm, 604, rfl⟩
abbrev main_call8_cst : Ref sig .tc := ⟨.hbm, 605, rfl⟩
abbrev main_call8_v2 : Ref sig .tc := ⟨.hbm, 606, rfl⟩
abbrev main_call8_v3 : Ref sig .tc := ⟨.hbm, 607, rfl⟩
abbrev main_call8_cst_0 : Ref sig .tc := ⟨.hbm, 608, rfl⟩
abbrev main_call8_v4 : Ref sig .tc := ⟨.hbm, 609, rfl⟩
abbrev main_call8_v5 : Ref sig .tc := ⟨.hbm, 610, rfl⟩
abbrev main_v481 : Ref sig .tc := ⟨.hbm, 611, rfl⟩
abbrev main_v482 : Ref sig .tc := ⟨.hbm, 612, rfl⟩
abbrev main_v483 : Ref sig .tc := ⟨.hbm, 613, rfl⟩
abbrev main_v484 : Ref sig .tc := ⟨.hbm, 614, rfl⟩
abbrev main_v485 : Ref sig .tc := ⟨.hbm, 615, rfl⟩

abbrev nD : Nat := 1
abbrev τ : Topo := Topo.v7x

variable {F : FTy → Type} [FloatOps F]
-- ==== InProj.lean ====
abbrev S8192x4096 : Shape := ⟨2, ![8192, 4096]⟩
abbrev S4096x10752 : Shape := ⟨2, ![4096, 10752]⟩
abbrev S8192x10752 : Shape := ⟨2, ![8192, 10752]⟩
abbrev S1024x4096 : Shape := ⟨2, ![1024, 4096]⟩
abbrev S4096x1536 : Shape := ⟨2, ![4096, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x10752, .bf16⟩
  | .hbm, ⟨2, _⟩ => ⟨S8192x10752, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1536, .bf16⟩
  | .local _ .vmem, ⟨3, _⟩ => ⟨S4096x1536, .bf16⟩
  | .local _ .vmem, ⟨4, _⟩ => ⟨S1024x1536, .bf16⟩
  | .local _ .vmem, ⟨5, _⟩ => ⟨S1024x1536, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S8192x4096 : Shape := ⟨2, ![8192, 4096]⟩
abbrev S4096x10752 : Shape := ⟨2, ![4096, 10752]⟩
abbrev S8192x10752 : Shape := ⟨2, ![8192, 10752]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x10752, .bf16⟩
  | .hbm, ⟨2, _⟩ => ⟨S8192x4096, .f32⟩
  | .hbm, ⟨3, _⟩ => ⟨S4096x10752, .f32⟩
  | .hbm, ⟨4, _⟩ => ⟨S8192x10752, .f32⟩
  | .hbm, ⟨5, _⟩ => ⟨S8192x10752, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Layer.InProj.lean ====
/- The value of the input projection: the array after the run is, index by index, the row of `x` against the column
   of `w`, summed over the contracted axis; the reference's dot product reads the same. -/
module

public import proofs.«01_k».proof.Proof.Gen.InProjIdeal.Value
public import proofs.«01_k».proof.Proof.Gen.InProjReferenceIdeal.Run
public import Idealize.ShloMosaic.Lib.Pipeline.ValueKit
public import Idealize.ShloMosaic.Lib.Tactic.CleanTypes

@[expose] public section

set_option maxRecDepth 16384

noncomputable section

namespace Cert.InProjReferenceIdeal

open Idealize.ShloMosaic Cert.InProjReferenceIdeal.Gen

/-- The input projection of the whole array. -/
def projected (x : FVec Ideal S8192x4096 .bf16) (y : FVec Ideal S4096x10752 .bf16) : FVec Ideal S8192x10752 .bf16 :=
  truncf .bf16 (Host.dotGeneral (φ₁ := .f32) (φ₂ := .f32) dot_S8192x4096_S4096x10752_S8192x10752_1_0_0_1_n_n none (extf .f32 x bitsLt_bf16_f32) (extf .f32 y bitsLt_bf16_f32)) bitsLt_bf16_f32

end Cert.InProjReferenceIdeal

namespace Cert.InProjIdeal.Layer

open Idealize.ShloMosaic Idealize.ShloMosaic.TcCoe Idealize.SL.Sem Cert.InProjIdeal Cert.InProjIdeal.Gen
open Idealize.ShloMosaic.Pipeline (Dat)

variable (m : (ℓ : Loc nD τ sig) → Buf (Elt Ideal) ℓ)

/-- Which blocks a grid point sees: a block of rows of `x`, a block of columns of `w`, and the block of the result at
    both. -/
theorem idx : ∀ t : Fin cfg0.N,
    win0_0.index t = ![win0_2.index t 0, 0] ∧ win0_1.index t = ![0, win0_2.index t 1] :=
  (by decide +kernel : ∀ t : Fin grid0.N, _)

theorem final (c : Dev nD) :
    (dats m 0 c).arrAt 2 cfg0.N = Cert.InProjReferenceIdeal.projected (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨e0, e1⟩ := idx t
  unfold k0_pay1 Cert.InProjReferenceIdeal.projected
  clean_types
  pointwise
  blk_point [iblk, V, e0, e1]

end Cert.InProjIdeal.Layer

end
-- ==== Proof.Layer.OutProj.lean ====
/- The value of the output projection: the array after the run is, index by index, the scaled residual and the row of
   the mixer's output against the column of `w`; the reference reads the same. -/
module

public import proofs.«01_k».proof.Proof.Gen.OutProjIdeal.Value
public import proofs.«01_k».proof.Proof.Gen.OutProjReferenceIdeal.Run
public import Idealize.ShloMosaic.Lib.Pipeline.ValueKit
public import Idealize.ShloMosaic.Lib.Tactic.CleanTypes

@[expose] public section

set_option maxRecDepth 16384

noncomputable section

namespace Cert.OutProjReferenceIdeal

open Idealize.ShloMosaic Cert.OutProjReferenceIdeal.Gen

/-- The scaled residual and the output projection of the whole array. -/
def projected (x : FVec Ideal S8192x4096 .bf16) (y : FVec Ideal S4096x4096 .bf16) (z : FVec Ideal S8192x4096 .f32) : FVec Ideal S8192x4096 .f32 :=
  addf (mulf (broadcastInDim S8192x4096 ![] bcast_S_S8192x4096 (constant S_ .f32 0x3FD744FD#32)) z) (Host.dotGeneral (φ₁ := .f32) (φ₂ := .f32) dot_S8192x4096_S4096x4096_S8192x4096_1_0_0_1_n_n none (extf .f32 x bitsLt_bf16_f32) (extf .f32 y bitsLt_bf16_f32))

end Cert.OutProjReferenceIdeal

namespace Cert.OutProjIdeal.Layer

open Idealize.ShloMosaic Idealize.ShloMosaic.TcCoe Idealize.SL.Sem Cert.OutProjIdeal Cert.OutProjIdeal.Gen
open Idealize.ShloMosaic.Pipeline (Dat)

variable (m : (ℓ : Loc nD τ sig) → Buf (Elt Ideal) ℓ)

/-- Which blocks a grid point sees: a block of rows of the mixer's output, a block of columns of `w`, and the block of
    the residual and of the result at both. -/
theorem idx : ∀ t : Fin cfg0.N,
    win0_0.index t = ![win0_3.index t 0, 0] ∧ win0_1.index t = ![0, win0_3.index t 1] ∧
      win0_2.index t = win0_3.index t :=
  (by decide +kernel : ∀ t : Fin grid0.N, _)

theorem final (c : Dev nD) :
    (dats m 0 c).arrAt 3 cfg0.N = Cert.OutProjReferenceIdeal.projected (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  obtain ⟨e0, e1, e2⟩ := idx t
  unfold k0_pay1 Cert.OutProjReferenceIdeal.projected
  clean_types
  pointwise
  blk_point [iblk, V, e0, e1, e2]

end Cert.OutProjIdeal.Layer

end
-- ==== Proof.Layer.Norm.lean ====
/- The values of the layer norm's two results, index by index: each row centred by its mean and divided by the root of its
   variance, scaled and shifted, and the same rounded. -/
module

public import proofs.«01_k».proof.Proof.Gen.NormIdeal.Value
public import proofs.«01_k».proof.Proof.Gen.NormReferenceIdeal.Run
public import Idealize.ShloMosaic.Lib.Pipeline.ValueKit
public import Idealize.ShloMosaic.Lib.Tactic.CleanTypes

@[expose] public section

set_option maxRecDepth 16384

noncomputable section

namespace Cert.NormReferenceIdeal

open Idealize.ShloMosaic Cert.NormReferenceIdeal.Gen

/-- The layer norm of the whole array. -/
def normed (x : FVec Ideal S8192x4096 .f32) (y : FVec Ideal S4096 .f32) (z : FVec Ideal S4096 .f32) : FVec Ideal S8192x4096 .f32 :=
  addf (mulf (mulf (subf x (broadcastInDim S8192x4096 ![0, 1] bcast_S8192x1_S8192x4096_0_1 (Host.divf (broadcastInDim S8192x1 ![0] bcast_S8192_S8192x1_0 (Host.reduceAdd x (constant S_ .f32 0x00000000#32) reducesTo_S8192x4096_S8192_d1 h_S_)) (broadcastInDim S8192x1 ![] bcast_S_S8192x1 (constant S_ .f32 0x45800000#32))))) (broadcastInDim S8192x4096 ![0, 1] bcast_S8192x1_S8192x4096_0_1 (Host.rsqrt (addf (Host.divf (broadcastInDim S8192x1 ![0] bcast_S8192_S8192x1_0 (Host.reduceAdd (mulf (subf x (broadcastInDim S8192x4096 ![0, 1] bcast_S8192x1_S8192x4096_0_1 (Host.divf (broadcastInDim S8192x1 ![0] bcast_S8192_S8192x1_0 (Host.reduceAdd x (constant S_ .f32 0x00000000#32) reducesTo_S8192x4096_S8192_d1 h_S_)) (broadcastInDim S8192x1 ![] bcast_S_S8192x1 (constant S_ .f32 0x45800000#32))))) (subf x (broadcastInDim S8192x4096 ![0, 1] bcast_S8192x1_S8192x4096_0_1 (Host.divf (broadcastInDim S8192x1 ![0] bcast_S8192_S8192x1_0 (Host.reduceAdd x (constant S_ .f32 0x00000000#32) reducesTo_S8192x4096_S8192_d1 h_S_)) (broadcastInDim S8192x1 ![] bcast_S_S8192x1 (constant S_ .f32 0x45800000#32)))))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x3727C5AC#32)))))) (broadcastInDim S8192x4096 ![0, 1] bcast_S1x4096_S8192x4096_0_1 (broadcastInDim S1x4096 ![1] bcast_S4096_S1x4096_1 y))) (broadcastInDim S8192x4096 ![0, 1] bcast_S1x4096_S8192x4096_0_1 (broadcastInDim S1x4096 ![1] bcast_S4096_S1x4096_1 z))

end Cert.NormReferenceIdeal

namespace Cert.NormReferenceIdeal

open Idealize.ShloMosaic Cert.NormReferenceIdeal.Gen

/-- The layer norm of the whole array, rounded. -/
def rounded (x : FVec Ideal S8192x4096 .f32) (y : FVec Ideal S4096 .f32) (z : FVec Ideal S4096 .f32) : FVec Ideal S8192x4096 .bf16 :=
  truncf .bf16 (normed x y z) bitsLt_bf16_f32

end Cert.NormReferenceIdeal

namespace Cert.NormIdeal.Layer

open Idealize.ShloMosaic Idealize.ShloMosaic.TcCoe Idealize.SL.Sem Cert.NormIdeal Cert.NormIdeal.Gen
open Idealize.ShloMosaic.Pipeline (Dat)

variable (m : (ℓ : Loc nD τ sig) → Buf (Elt Ideal) ℓ)

/-- Which blocks a grid point sees: a block of rows of `x`, the whole of the scale and of the shift, and the block of
    either result at the same rows. -/
theorem idx : ∀ t : Fin cfg0.N,
    win0_0.index t = ![win0_3.index t 0, 0] ∧ win0_4.index t = win0_3.index t ∧
      win0_1.index t = ![0, 0] ∧ win0_2.index t = ![0, 0] ∧ win0_3.index t 1 = 0 :=
  (by decide +kernel : ∀ t : Fin grid0.N, _)

theorem final (c : Dev nD) :
    (dats m 0 c).arrAt 3 cfg0.N = Cert.NormReferenceIdeal.normed (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  obtain ⟨e0, e1, e2, e3, e4⟩ := idx t
  unfold k0_pay1 Cert.NormReferenceIdeal.normed
  clean_types
  pointwise
  blk_point [iblk, V, e0, e1, e2, e3, e4]

theorem final4 (c : Dev nD) :
    (dats m 0 c).arrAt 4 cfg0.N = Cert.NormReferenceIdeal.rounded (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  frame_out
  obtain ⟨e0, e1, e2, e3, e4⟩ := idx t
  unfold k0_pay2 k0_pay1 Cert.NormReferenceIdeal.rounded Cert.NormReferenceIdeal.normed
  clean_types
  pointwise
  blk_point [iblk, V, e0, e1, e2, e3, e4]

end Cert.NormIdeal.Layer

end
-- ==== Proof.Mixer.KernelCase.lean ====
/-
  The one condition of the mixer's body.
-/
module

public import proofs.«01_k».proof.Proof.Gen.Kernel.Frame
public import proofs.«01_k».proof.Proof.Gen.Kernel.Skeleton

@[expose] public section

noncomputable section

namespace Cert.Kernel.Mixer

open Idealize.ShloMosaic Cert.Kernel.Gen

/-- The grid point is at the first block of a sequence, as the body asks it. -/
abbrev cond0 (i : grid0.Coords) : Prop :=
  Scalar.cmpi .ne (Scalar.extui (Scalar.cmpi .eq (BitVec.ofNat 32 (i 1).val) 0#32)) 0#32 = 1#1

end Cert.Kernel.Mixer

end
-- ==== Proof.Mixer.KernelIdealCase.lean ====
/-
  The one condition of the mixer's body.
-/
module

public import proofs.«01_k».proof.Proof.Gen.KernelIdeal.Frame
public import proofs.«01_k».proof.Proof.Gen.KernelIdeal.Skeleton

@[expose] public section

noncomputable section

namespace Cert.KernelIdeal.Mixer

open Idealize.ShloMosaic Cert.KernelIdeal.Gen

/-- The grid point is at the first block of a sequence, as the body asks it. -/
abbrev cond0 (i : grid0.Coords) : Prop :=
  Scalar.cmpi .ne (Scalar.extui (Scalar.cmpi .eq (BitVec.ofNat 32 (i 1).val) 0#32)) 0#32 = 1#1

end Cert.KernelIdeal.Mixer

end
-- ==== Proof.Mixer.KernelIdealRunA.lean ====
/-
  The mixer's body run once, symbolically, in the case of the first block of a sequence: the carried scratch is cleared first.
-/
module

public import proofs.«01_k».proof.Proof.Mixer.KernelIdealCase

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 8000000 in
set_option sl_exec.closedPieces true in
/-- The pieces that the body leaves in its result and in each scratch, written over what these held, with the proof
    that the body runs to them from whole memrefs at the given contents, its inputs unchanged. -/
noncomputable def runA (c : Dev nD) (i : grid0.Coords) (arg2 : Memref sig .tc .smem S32 .f32) (harg2 : arg2.IsWhole) (arg3 : Memref sig .tc .vmem S128x10752 .bf16) (harg3 : arg3.IsWhole) (arg4 : Memref sig .tc .vmem S3x1024 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S8x128x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x2048 .f32) (harg12 : arg12.IsWhole) (arg13 : Memref sig .tc .vmem S1x1024 .f32) (harg13 : arg13.IsWhole) (arg14 : Memref sig .tc .vmem S128x4096 .bf16) (harg14 : arg14.IsWhole) (arg15 : Memref sig .tc .vmem S144x1024 .f32) (harg15 : arg15.IsWhole) (arg16 : Memref sig .tc .vmem S144x1024 .f32) (harg16 : arg16.IsWhole) (arg17 : Memref sig .tc .vmem S128x256 .f32) (harg17 : arg17.IsWhole) (arg18 : Memref sig .tc .vmem S128x256 .f32) (harg18 : arg18.IsWhole) (arg19 : Memref sig .tc .vmem S8x1024 .f32) (harg19 : arg19.IsWhole) (arg20 : Memref sig .tc .vmem S128x2048 .f32) (harg20 : arg20.IsWhole)
    (x2 : Vec F S32 .f32) (x3 : Vec F S128x10752 .bf16) (x4 : Vec F S3x1024 .f32) (x5 : Vec F S4x1024 .f32) (x6 : Vec F S1x1024 .f32) (x7 : Vec F S8x128x256 .bf16) (x8 : Vec F S1x1024 .f32) (x9 : Vec F S1x1024 .f32) (x10 : Vec F S1x1024 .f32) (x11 : Vec F S1x1024 .f32) (x12 : Vec F S1x2048 .f32) (x13 : Vec F S1x1024 .f32) (x14 : Vec F S128x4096 .bf16) (x15 : Vec F S144x1024 .f32) (x16 : Vec F S144x1024 .f32) (x17 : Vec F S128x256 .f32) (x18 : Vec F S128x256 .f32) (x19 : Vec F S8x1024 .f32) (x20 : Vec F S128x2048 .f32)
    (hc : cond0 i) :
    Σ' (L14 : List (View.Piece (Elt F) S128x4096 .bf16)), Σ' (L15 : List (View.Piece (Elt F) S144x1024 .f32)), Σ' (L16 : List (View.Piece (Elt F) S144x1024 .f32)), Σ' (L17 : List (View.Piece (Elt F) S128x256 .f32)), Σ' (L18 : List (View.Piece (Elt F) S128x256 .f32)), Σ' (L19 : List (View.Piece (Elt F) S8x1024 .f32)), { L20 : List (View.Piece (Elt F) S128x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (arg14.view.read (Elt F) (arg14.view.writes (Elt F) (harg14.unread x14) L14)) ∗ owns (c : Thread nD τ) arg15 fullShare (arg15.view.read (Elt F) (arg15.view.writes (Elt F) (harg15.unread x15) L15)) ∗ owns (c : Thread nD τ) arg16 fullShare (arg16.view.read (Elt F) (arg16.view.writes (Elt F) (harg16.unread x16) L16)) ∗ owns (c : Thread nD τ) arg17 fullShare (arg17.view.read (Elt F) (arg17.view.writes (Elt F) (harg17.unread x17) L17)) ∗ owns (c : Thread nD τ) arg18 fullShare (arg18.view.read (Elt F) (arg18.view.writes (Elt F) (harg18.unread x18) L18)) ∗ owns (c : Thread nD τ) arg19 fullShare (arg19.view.read (Elt F) (arg19.view.writes (Elt F) (harg19.unread x19) L19)) ∗ owns (c : Thread nD τ) arg20 fullShare (arg20.view.read (Elt F) (arg20.view.writes (Elt F) (harg20.unread x20) L20))) -∗ K ⟨⟩))
          ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, fun E K => ?run⟩
  case run =>
    simp only [cc0_mixer_eq_skeleton]; unfold cc0_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    iexists _; isplitr; swap; · iexact H20
    ipureintro; rfl

end Cert.KernelIdeal.Mixer

end
-- ==== Proof.Mixer.KernelIdealRunB.lean ====
/-
  The mixer's body run once, symbolically, in the case of a later block of a sequence: the carried scratch is read as the block before left it.
-/
module

public import proofs.«01_k».proof.Proof.Mixer.KernelIdealCase

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 8000000 in
set_option sl_exec.closedPieces true in
/-- The pieces that the body leaves in its result and in each scratch, written over what these held, with the proof
    that the body runs to them from whole memrefs at the given contents, its inputs unchanged. -/
noncomputable def runB (c : Dev nD) (i : grid0.Coords) (arg2 : Memref sig .tc .smem S32 .f32) (harg2 : arg2.IsWhole) (arg3 : Memref sig .tc .vmem S128x10752 .bf16) (harg3 : arg3.IsWhole) (arg4 : Memref sig .tc .vmem S3x1024 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S8x128x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x2048 .f32) (harg12 : arg12.IsWhole) (arg13 : Memref sig .tc .vmem S1x1024 .f32) (harg13 : arg13.IsWhole) (arg14 : Memref sig .tc .vmem S128x4096 .bf16) (harg14 : arg14.IsWhole) (arg15 : Memref sig .tc .vmem S144x1024 .f32) (harg15 : arg15.IsWhole) (arg16 : Memref sig .tc .vmem S144x1024 .f32) (harg16 : arg16.IsWhole) (arg17 : Memref sig .tc .vmem S128x256 .f32) (harg17 : arg17.IsWhole) (arg18 : Memref sig .tc .vmem S128x256 .f32) (harg18 : arg18.IsWhole) (arg19 : Memref sig .tc .vmem S8x1024 .f32) (harg19 : arg19.IsWhole) (arg20 : Memref sig .tc .vmem S128x2048 .f32) (harg20 : arg20.IsWhole)
    (x2 : Vec F S32 .f32) (x3 : Vec F S128x10752 .bf16) (x4 : Vec F S3x1024 .f32) (x5 : Vec F S4x1024 .f32) (x6 : Vec F S1x1024 .f32) (x7 : Vec F S8x128x256 .bf16) (x8 : Vec F S1x1024 .f32) (x9 : Vec F S1x1024 .f32) (x10 : Vec F S1x1024 .f32) (x11 : Vec F S1x1024 .f32) (x12 : Vec F S1x2048 .f32) (x13 : Vec F S1x1024 .f32) (x14 : Vec F S128x4096 .bf16) (x15 : Vec F S144x1024 .f32) (x16 : Vec F S144x1024 .f32) (x17 : Vec F S128x256 .f32) (x18 : Vec F S128x256 .f32) (x19 : Vec F S8x1024 .f32) (x20 : Vec F S128x2048 .f32)
    (hc : ¬ cond0 i) :
    Σ' (L14 : List (View.Piece (Elt F) S128x4096 .bf16)), Σ' (L15 : List (View.Piece (Elt F) S144x1024 .f32)), Σ' (L16 : List (View.Piece (Elt F) S144x1024 .f32)), Σ' (L17 : List (View.Piece (Elt F) S128x256 .f32)), Σ' (L18 : List (View.Piece (Elt F) S128x256 .f32)), Σ' (L19 : List (View.Piece (Elt F) S8x1024 .f32)), { L20 : List (View.Piece (Elt F) S128x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (arg14.view.read (Elt F) (arg14.view.writes (Elt F) (harg14.unread x14) L14)) ∗ owns (c : Thread nD τ) arg15 fullShare (arg15.view.read (Elt F) (arg15.view.writes (Elt F) (harg15.unread x15) L15)) ∗ owns (c : Thread nD τ) arg16 fullShare (arg16.view.read (Elt F) (arg16.view.writes (Elt F) (harg16.unread x16) L16)) ∗ owns (c : Thread nD τ) arg17 fullShare (arg17.view.read (Elt F) (arg17.view.writes (Elt F) (harg17.unread x17) L17)) ∗ owns (c : Thread nD τ) arg18 fullShare (arg18.view.read (Elt F) (arg18.view.writes (Elt F) (harg18.unread x18) L18)) ∗ owns (c : Thread nD τ) arg19 fullShare (arg19.view.read (Elt F) (arg19.view.writes (Elt F) (harg19.unread x19) L19)) ∗ owns (c : Thread nD τ) arg20 fullShare (arg20.view.read (Elt F) (arg20.view.writes (Elt F) (harg20.unread x20) L20))) -∗ K ⟨⟩))
          ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, fun E K => ?run⟩
  case run =>
    simp only [cc0_mixer_eq_skeleton]; unfold cc0_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    iexists _; isplitr; swap; · iexact H20
    ipureintro; rfl

end Cert.KernelIdeal.Mixer

end
-- ==== Proof.Mixer.KernelIdealRun.lean ====
/-
  The mixer's run from its body's: what the scratch holds between the grid points is known only through a relation that
  each point keeps, and the block of the result that a point leaves only through a property that it then has. Both are
  parameters; with the ones that hold of everything this gives the frame.
-/
module

public import proofs.«01_k».proof.Proof.Mixer.KernelIdealRunA
public import proofs.«01_k».proof.Proof.Mixer.KernelIdealRunB
public import Idealize.ShloMosaic.Lib.Pipeline.DatRel

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs of a point -/

abbrev mem2 (t : Fin cfg0.N) : Memref sig .tc .smem S32 .f32 := win0_0.stage (cfg0.slots t 0)
theorem whole2 (t : Fin cfg0.N) : (mem2 t).IsWhole := hstage0_0 ((cfg0.slots t 0).cast nbuf0_0)
abbrev mem3 (t : Fin cfg0.N) : Memref sig .tc .vmem S128x10752 .bf16 := win0_1.stage (cfg0.slots t 1)
theorem whole3 (t : Fin cfg0.N) : (mem3 t).IsWhole := hstage0_1 ((cfg0.slots t 1).cast nbuf0_1)
abbrev mem4 (t : Fin cfg0.N) : Memref sig .tc .vmem S3x1024 .f32 := win0_2.stage (cfg0.slots t 2)
theorem whole4 (t : Fin cfg0.N) : (mem4 t).IsWhole := hstage0_2 ((cfg0.slots t 2).cast nbuf0_2)
abbrev mem5 (t : Fin cfg0.N) : Memref sig .tc .vmem S4x1024 .f32 := win0_3.stage (cfg0.slots t 3)
theorem whole5 (t : Fin cfg0.N) : (mem5 t).IsWhole := hstage0_3 ((cfg0.slots t 3).cast nbuf0_3)
abbrev mem6 (t : Fin cfg0.N) : Memref sig .tc .vmem S1x1024 .f32 := win0_4.stage (cfg0.slots t 4)
theorem whole6 (t : Fin cfg0.N) : (mem6 t).IsWhole := hstage0_4 ((cfg0.slots t 4).cast nbuf0_4)
abbrev mem7 (t : Fin cfg0.N) : Memref sig .tc .vmem S8x128x256 .bf16 := win0_5.stage (cfg0.slots t 5)
theorem whole7 (t : Fin cfg0.N) : (mem7 t).IsWhole := hstage0_5 ((cfg0.slots t 5).cast nbuf0_5)
abbrev mem8 (t : Fin cfg0.N) : Memref sig .tc .vmem S1x1024 .f32 := win0_6.stage (cfg0.slots t 6)
theorem whole8 (t : Fin cfg0.N) : (mem8 t).IsWhole := hstage0_6 ((cfg0.slots t 6).cast nbuf0_6)
abbrev mem9 (t : Fin cfg0.N) : Memref sig .tc .vmem S1x1024 .f32 := win0_7.stage (cfg0.slots t 7)
theorem whole9 (t : Fin cfg0.N) : (mem9 t).IsWhole := hstage0_7 ((cfg0.slots t 7).cast nbuf0_7)
abbrev mem10 (t : Fin cfg0.N) : Memref sig .tc .vmem S1x1024 .f32 := win0_8.stage (cfg0.slots t 8)
theorem whole10 (t : Fin cfg0.N) : (mem10 t).IsWhole := hstage0_8 ((cfg0.slots t 8).cast nbuf0_8)
abbrev mem11 (t : Fin cfg0.N) : Memref sig .tc .vmem S1x1024 .f32 := win0_9.stage (cfg0.slots t 9)
theorem whole11 (t : Fin cfg0.N) : (mem11 t).IsWhole := hstage0_9 ((cfg0.slots t 9).cast nbuf0_9)
abbrev mem12 (t : Fin cfg0.N) : Memref sig .tc .vmem S1x2048 .f32 := win0_10.stage (cfg0.slots t 10)
theorem whole12 (t : Fin cfg0.N) : (mem12 t).IsWhole := hstage0_10 ((cfg0.slots t 10).cast nbuf0_10)
abbrev mem13 (t : Fin cfg0.N) : Memref sig .tc .vmem S1x1024 .f32 := win0_11.stage (cfg0.slots t 11)
theorem whole13 (t : Fin cfg0.N) : (mem13 t).IsWhole := hstage0_11 ((cfg0.slots t 11).cast nbuf0_11)
abbrev mem14 (t : Fin cfg0.N) : Memref sig .tc .vmem S128x4096 .bf16 := win0_12.stage (cfg0.slots t 12)
theorem whole14 (t : Fin cfg0.N) : (mem14 t).IsWhole := hstage0_12 ((cfg0.slots t 12).cast nbuf0_12)
abbrev mem15 : Memref sig .tc .vmem S144x1024 .f32 := Memref.whole cc0_scratch0
theorem whole15 : mem15.IsWhole := Memref.isWhole_whole _
abbrev mem16 : Memref sig .tc .vmem S144x1024 .f32 := Memref.whole cc0_scratch1
theorem whole16 : mem16.IsWhole := Memref.isWhole_whole _
abbrev mem17 : Memref sig .tc .vmem S128x256 .f32 := Memref.whole cc0_scratch2
theorem whole17 : mem17.IsWhole := Memref.isWhole_whole _
abbrev mem18 : Memref sig .tc .vmem S128x256 .f32 := Memref.whole cc0_scratch3
theorem whole18 : mem18.IsWhole := Memref.isWhole_whole _
abbrev mem19 : Memref sig .tc .vmem S8x1024 .f32 := Memref.whole cc0_scratch4
theorem whole19 : mem19.IsWhole := Memref.isWhole_whole _
abbrev mem20 : Memref sig .tc .vmem S128x2048 .f32 := Memref.whole cc0_scratch5
theorem whole20 : mem20.IsWhole := Memref.isWhole_whole _

/-! ## One point -/

/-- What the six scratch buffers hold. -/
structure Scratch (F : FTy → Type) where
  pa : Vec F S144x1024 .f32
  cx : Vec F S144x1024 .f32
  k : Vec F S128x256 .f32
  v : Vec F S128x256 .f32
  h : Vec F S8x1024 .f32
  y : Vec F S128x2048 .f32

/-- What the body leaves in the result's block, at the first block of a sequence. -/
def outA (c : Dev nD) (t : Fin cfg0.N) (x : Vec F S128x4096 .bf16) (S : Scratch F) (h : cond0 (grid0.coords t)) : Vec F S128x4096 .bf16 :=
  (mem14 t).view.read (Elt F) ((mem14 t).view.writes (Elt F) ((whole14 t).unread x) (runA (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).1)

/-- What the body leaves in the scratch, at the first block of a sequence. -/
def nextA (c : Dev nD) (t : Fin cfg0.N) (x : Vec F S128x4096 .bf16) (S : Scratch F) (h : cond0 (grid0.coords t)) : Scratch F where
  pa := mem15.view.read (Elt F) (mem15.view.writes (Elt F) (whole15.unread S.pa) (runA (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.1)
  cx := mem16.view.read (Elt F) (mem16.view.writes (Elt F) (whole16.unread S.cx) (runA (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.1)
  k := mem17.view.read (Elt F) (mem17.view.writes (Elt F) (whole17.unread S.k) (runA (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.2.1)
  v := mem18.view.read (Elt F) (mem18.view.writes (Elt F) (whole18.unread S.v) (runA (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.2.2.1)
  h := mem19.view.read (Elt F) (mem19.view.writes (Elt F) (whole19.unread S.h) (runA (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.2.2.2.1)
  y := mem20.view.read (Elt F) (mem20.view.writes (Elt F) (whole20.unread S.y) (runA (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.2.2.2.2.val)

/-- What the body leaves in the result's block, at a later block. -/
def outB (c : Dev nD) (t : Fin cfg0.N) (x : Vec F S128x4096 .bf16) (S : Scratch F) (h : ¬ cond0 (grid0.coords t)) : Vec F S128x4096 .bf16 :=
  (mem14 t).view.read (Elt F) ((mem14 t).view.writes (Elt F) ((whole14 t).unread x) (runB (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).1)

/-- What the body leaves in the scratch, at a later block. -/
def nextB (c : Dev nD) (t : Fin cfg0.N) (x : Vec F S128x4096 .bf16) (S : Scratch F) (h : ¬ cond0 (grid0.coords t)) : Scratch F where
  pa := mem15.view.read (Elt F) (mem15.view.writes (Elt F) (whole15.unread S.pa) (runB (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.1)
  cx := mem16.view.read (Elt F) (mem16.view.writes (Elt F) (whole16.unread S.cx) (runB (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.1)
  k := mem17.view.read (Elt F) (mem17.view.writes (Elt F) (whole17.unread S.k) (runB (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.2.1)
  v := mem18.view.read (Elt F) (mem18.view.writes (Elt F) (whole18.unread S.v) (runB (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.2.2.1)
  h := mem19.view.read (Elt F) (mem19.view.writes (Elt F) (whole19.unread S.h) (runB (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.2.2.2.1)
  y := mem20.view.read (Elt F) (mem20.view.writes (Elt F) (whole20.unread S.y) (runB (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.2.2.2.2.val)

/-! ## The invariant -/

/-- The scratch at some contents that meet `P`, and the generator's register at some state. -/
def held (P : Scratch F → Prop) (c : Dev nD) : sProp 𝕄 :=
  iprop(iprop(∃ S : Scratch F, ⌜P S⌝ ∗ owns (c : Thread nD τ) mem15 fullShare S.pa ∗ owns (c : Thread nD τ) mem16 fullShare S.cx ∗ owns (c : Thread nD τ) mem17 fullShare S.k ∗ owns (c : Thread nD τ) mem18 fullShare S.v ∗ owns (c : Thread nD τ) mem19 fullShare S.h ∗ owns (c : Thread nD τ) mem20 fullShare S.y) ∗ (∃ r, prngReg c r))

theorem launched (c : Dev nD) : (Pipeline.ΦA spec0 c : sProp 𝕄)
    = iprop(iprop((∃ d, owns (c : Thread nD τ) mem15 fullShare d) ∗ (∃ d, owns (c : Thread nD τ) mem16 fullShare d) ∗ (∃ d, owns (c : Thread nD τ) mem17 fullShare d) ∗ (∃ d, owns (c : Thread nD τ) mem18 fullShare d) ∗ (∃ d, owns (c : Thread nD τ) mem19 fullShare d) ∗ (∃ d, owns (c : Thread nD τ) mem20 fullShare d)) ∗ (∃ r, prngReg c r)) := by
  unfold Pipeline.ΦA; rw [scopedRest0_eq]; simp only [mem15, mem16, mem17, mem18, mem19, mem20, owns_whole]; try rfl

theorem held_of_launched (P : Scratch F → Prop) (h : ∀ S, P S) (c : Dev nD) : (Pipeline.ΦA spec0 c : sProp 𝕄) ⊢ held P c := by
  rw [launched]; unfold held
  iintro ⟨⟨⟨%d15, H15⟩, ⟨%d16, H16⟩, ⟨%d17, H17⟩, ⟨%d18, H18⟩, ⟨%d19, H19⟩, ⟨%d20, H20⟩⟩, Hg⟩
  isplitr [Hg]
  · iexists (⟨d15, d16, d17, d18, d19, d20⟩ : Scratch F)
    isplitr
    · ipureintro; exact h _
    isplitl [H15]
    · iexact H15
    isplitl [H16]
    · iexact H16
    isplitl [H17]
    · iexact H17
    isplitl [H18]
    · iexact H18
    isplitl [H19]
    · iexact H19
    iexact H20
  iexact Hg

theorem launched_of_held (P : Scratch F → Prop) (c : Dev nD) : (held P c : sProp 𝕄) ⊢ Pipeline.ΦA spec0 c := by
  rw [launched]; unfold held
  iintro ⟨⟨%S, -, H15, H16, H17, H18, H19, H20⟩, Hg⟩
  isplitr [Hg]
  · isplitl [H15]
    · iexists _; iexact H15
    isplitl [H16]
    · iexists _; iexact H16
    isplitl [H17]
    · iexists _; iexact H17
    isplitl [H18]
    · iexists _; iexact H18
    isplitl [H19]
    · iexists _; iexact H19
    iexists _; iexact H20
  iexact Hg

/-! ## The proof data -/

/-- The result's window, of which only the property is known. -/
def marked : Fin 13 → Bool := fun w => w.val == 12

variable (Rel : Dev nD → ℕ → Scratch F → Prop) (Out : Dev nD → Fin cfg0.N → Vec F S128x4096 .bf16 → Prop)

/-- The proof data on core `c`: each input's buffer at its block after each point, and the scratch related to the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨_ + 13, h⟩ => absurd h (Nat.not_lt.2 (Nat.le_add_left _ _))
  Φ t := held (Rel c t.val) c
  q _ := fullShare
  owed _ := 0

/-- The property of the result's window. -/
def keeps (c : Dev nD) : (w : Fin cfg0.W) → Fin cfg0.N → ((cfg0.win w).block.Idx → Elt F (cfg0.win w).elt) → Prop := fun w t X =>
  match w, X with
  | ⟨12, _⟩, X => Out c t X
  | _, _ => True

theorem A_eq (c : Dev nD) (w : Fin cfg0.W) : (dats m Rel 0 c).A w = V m c (Pipeline.arrRef spec0 w) := by
  dsimp only [dats]

theorem before0_0 (c : Dev nD) (t : Fin cfg0.N) (d) : (dats m Rel 0 c).before 0 t d = iblk m c 0 t :=
  before0_0_of m (dats m Rel 0 c) (A_eq m Rel c 0) (fun _ => by dsimp only [dats]) t d
theorem before0_1 (c : Dev nD) (t : Fin cfg0.N) (d) : (dats m Rel 0 c).before 1 t d = iblk m c 1 t :=
  before0_1_of m (dats m Rel 0 c) (A_eq m Rel c 1) (fun _ => by dsimp only [dats]) t d
theorem before0_2 (c : Dev nD) (t : Fin cfg0.N) (d) : (dats m Rel 0 c).before 2 t d = iblk m c 2 t :=
  before0_2_of m (dats m Rel 0 c) (A_eq m Rel c 2) (fun _ => by dsimp only [dats]) t d
theorem before0_3 (c : Dev nD) (t : Fin cfg0.N) (d) : (dats m Rel 0 c).before 3 t d = iblk m c 3 t :=
  before0_3_of m (dats m Rel 0 c) (A_eq m Rel c 3) (fun _ => by dsimp only [dats]) t d
theorem before0_4 (c : Dev nD) (t : Fin cfg0.N) (d) : (dats m Rel 0 c).before 4 t d = iblk m c 4 t :=
  before0_4_of m (dats m Rel 0 c) (A_eq m Rel c 4) (fun _ => by dsimp only [dats]) t d
theorem before0_5 (c : Dev nD) (t : Fin cfg0.N) (d) : (dats m Rel 0 c).before 5 t d = iblk m c 5 t :=
  before0_5_of m (dats m Rel 0 c) (A_eq m Rel c 5) (fun _ => by dsimp only [dats]) t d
theorem before0_6 (c : Dev nD) (t : Fin cfg0.N) (d) : (dats m Rel 0 c).before 6 t d = iblk m c 6 t :=
  before0_6_of m (dats m Rel 0 c) (A_eq m Rel c 6) (fun _ => by dsimp only [dats]) t d
theorem before0_7 (c : Dev nD) (t : Fin cfg0.N) (d) : (dats m Rel 0 c).before 7 t d = iblk m c 7 t :=
  before0_7_of m (dats m Rel 0 c) (A_eq m Rel c 7) (fun _ => by dsimp only [dats]) t d
theorem before0_8 (c : Dev nD) (t : Fin cfg0.N) (d) : (dats m Rel 0 c).before 8 t d = iblk m c 8 t :=
  before0_8_of m (dats m Rel 0 c) (A_eq m Rel c 8) (fun _ => by dsimp only [dats]) t d
theorem before0_9 (c : Dev nD) (t : Fin cfg0.N) (d) : (dats m Rel 0 c).before 9 t d = iblk m c 9 t :=
  before0_9_of m (dats m Rel 0 c) (A_eq m Rel c 9) (fun _ => by dsimp only [dats]) t d
theorem before0_10 (c : Dev nD) (t : Fin cfg0.N) (d) : (dats m Rel 0 c).before 10 t d = iblk m c 10 t :=
  before0_10_of m (dats m Rel 0 c) (A_eq m Rel c 10) (fun _ => by dsimp only [dats]) t d
theorem before0_11 (c : Dev nD) (t : Fin cfg0.N) (d) : (dats m Rel 0 c).before 11 t d = iblk m c 11 t :=
  before0_11_of m (dats m Rel 0 c) (A_eq m Rel c 11) (fun _ => by dsimp only [dats]) t d

/-! ## The body obligation -/

variable (hA : ∀ c t x S h, Rel c t.val S → Rel c (t.val + 1) (nextA m c t x S h) ∧ Out c t (outA m c t x S h))
  (hB : ∀ c t x S h, Rel c t.val S → Rel c (t.val + 1) (nextB m c t x S h) ∧ Out c t (outB m c t x S h))

/-- What the body is given at point `t`, -/
def pre (c : Dev nD) (t : Fin cfg0.N) : sProp 𝕄 :=
  iprop(held (Rel c t.val) c ∗ (dats m Rel 0 c).owesAt () t.castSucc
    ∗ (∃ d, owns (c : Thread nD τ) (mem2 t) fullShare ((dats m Rel 0 c).before 0 t d)) ∗ (∃ d, owns (c : Thread nD τ) (mem3 t) fullShare ((dats m Rel 0 c).before 1 t d)) ∗ (∃ d, owns (c : Thread nD τ) (mem4 t) fullShare ((dats m Rel 0 c).before 2 t d)) ∗ (∃ d, owns (c : Thread nD τ) (mem5 t) fullShare ((dats m Rel 0 c).before 3 t d)) ∗ (∃ d, owns (c : Thread nD τ) (mem6 t) fullShare ((dats m Rel 0 c).before 4 t d)) ∗ (∃ d, owns (c : Thread nD τ) (mem7 t) fullShare ((dats m Rel 0 c).before 5 t d)) ∗ (∃ d, owns (c : Thread nD τ) (mem8 t) fullShare ((dats m Rel 0 c).before 6 t d)) ∗ (∃ d, owns (c : Thread nD τ) (mem9 t) fullShare ((dats m Rel 0 c).before 7 t d)) ∗ (∃ d, owns (c : Thread nD τ) (mem10 t) fullShare ((dats m Rel 0 c).before 8 t d)) ∗ (∃ d, owns (c : Thread nD τ) (mem11 t) fullShare ((dats m Rel 0 c).before 9 t d)) ∗ (∃ d, owns (c : Thread nD τ) (mem12 t) fullShare ((dats m Rel 0 c).before 10 t d)) ∗ (∃ d, owns (c : Thread nD τ) (mem13 t) fullShare ((dats m Rel 0 c).before 11 t d))
    ∗ (∃ Y, ⌜((dats m Rel 0 c).toRRel marked (keeps Out c)).Finds 12 t Y⌝ ∗ owns (c : Thread nD τ) (mem14 t) fullShare Y))

/-- and what it returns. -/
def post (c : Dev nD) (t : Fin cfg0.N) : sProp 𝕄 :=
  iprop(held (Rel c (t.val + 1)) c ∗ (dats m Rel 0 c).owesAt () t.castSucc
    ∗ owns (c : Thread nD τ) (mem2 t) fullShare (iblk m c 0 t) ∗ owns (c : Thread nD τ) (mem3 t) fullShare (iblk m c 1 t) ∗ owns (c : Thread nD τ) (mem4 t) fullShare (iblk m c 2 t) ∗ owns (c : Thread nD τ) (mem5 t) fullShare (iblk m c 3 t) ∗ owns (c : Thread nD τ) (mem6 t) fullShare (iblk m c 4 t) ∗ owns (c : Thread nD τ) (mem7 t) fullShare (iblk m c 5 t) ∗ owns (c : Thread nD τ) (mem8 t) fullShare (iblk m c 6 t) ∗ owns (c : Thread nD τ) (mem9 t) fullShare (iblk m c 7 t) ∗ owns (c : Thread nD τ) (mem10 t) fullShare (iblk m c 8 t) ∗ owns (c : Thread nD τ) (mem11 t) fullShare (iblk m c 9 t) ∗ owns (c : Thread nD τ) (mem12 t) fullShare (iblk m c 10 t) ∗ owns (c : Thread nD τ) (mem13 t) fullShare (iblk m c 11 t)
    ∗ (∃ X, ⌜Out c t X⌝ ∗ owns (c : Thread nD τ) (mem14 t) fullShare X))

include hA hB in
set_option maxHeartbeats 4000000 in
/-- The body at any point, from its two runs. -/
theorem body (c : Dev nD) (t : Fin cfg0.N) :
    pre m Rel Out c t ⊢ wp frame (wpE (defs₀ (F := F)) Variants.none c none) Set.univ (bodyAt0 t) (fun _ => post m Rel Out c t) := by
  unfold pre post bodyAt0 held
  simp only [before0_0, before0_1, before0_2, before0_3, before0_4, before0_5, before0_6, before0_7, before0_8, before0_9, before0_10, before0_11]
  iintro ⟨⟨⟨%S, %hS, H15, H16, H17, H18, H19, H20⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%x, -, H14⟩⟩
  by_cases h : cond0 (grid0.coords t)
  · iapply ((runA (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.2.2.2.2.property Set.univ _)
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    iintro ⟨H2, H3, H4, H5, H6, H7, H8, H9, H10, H11, H12, H13, H14, H15, H16, H17, H18, H19, H20⟩
    isplitl [H15 H16 H17 H18 H19 H20 Hg]
    · isplitr [Hg]
      · iexists (nextA m c t x S h)
        isplitr
        · ipureintro; exact (hA c t x S h hS).1
        unfold nextA
        isplitl [H15]
        · iexact H15
        isplitl [H16]
        · iexact H16
        isplitl [H17]
        · iexact H17
        isplitl [H18]
        · iexact H18
        isplitl [H19]
        · iexact H19
        iexact H20
      iexact Hg
    isplitl [Ho]; · iexact Ho
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexists (outA m c t x S h)
    isplitr
    · ipureintro; exact (hA c t x S h hS).2
    unfold outA
    iexact H14
  · iapply ((runB (F := F) c (grid0.coords t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (mem13 t) (whole13 t) (mem14 t) (whole14 t) mem15 whole15 mem16 whole16 mem17 whole17 mem18 whole18 mem19 whole19 mem20 whole20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x S.pa S.cx S.k S.v S.h S.y h).2.2.2.2.2.2.property Set.univ _)
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    iintro ⟨H2, H3, H4, H5, H6, H7, H8, H9, H10, H11, H12, H13, H14, H15, H16, H17, H18, H19, H20⟩
    isplitl [H15 H16 H17 H18 H19 H20 Hg]
    · isplitr [Hg]
      · iexists (nextB m c t x S h)
        isplitr
        · ipureintro; exact (hB c t x S h hS).1
        unfold nextB
        isplitl [H15]
        · iexact H15
        isplitl [H16]
        · iexact H16
        isplitl [H17]
        · iexact H17
        isplitl [H18]
        · iexact H18
        isplitl [H19]
        · iexact H19
        iexact H20
      iexact Hg
    isplitl [Ho]; · iexact Ho
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexists (outB m c t x S h)
    isplitr
    · ipureintro; exact (hB c t x S h hS).2
    unfold outB
    iexact H14

theorem defs₀_row (t : Fin cfg0.N) :
    defs₀ (F := F) .tc cfg0.body (cfg0.bodyArgs t (cfg0.slots t)) = bodyAt0 t := by
  unfold defs₀; rw [Defs.onTc_tc]

include hA hB in
theorem obligation (c : Dev nD) :
    Pipeline.BodyObligationRel (dats m Rel 0 c) (defs₀ (F := F)) Variants.none () Set.univ marked (keeps Out c) := fun t => by
  rw [bigSep_W0, bigSep_W0, defs₀_row]
  exact triple_restated (body m Rel Out hA hB c t) rfl .rfl fun _ => .rfl

/-! ## The run -/

variable (h0 : ∀ c S, Rel c 0 S)

include hA hB h0 in
set_option backward.isDefEq.respectTransparency.types false in
/-- Every weakly fair execution ends; the arrays then are what the points' blocks, each with its property, make of them,
    and every counter is zero. -/
theorem run : θ_run defs (onTc (τ := τ) (main (F := F))) (s₀ m ρ)
    (fun r => RDat.FramePost (cfgs 0) (fun c => (dats m Rel 0 c).toRRel marked (keeps Out c)) (V m) r ∧ r.2.sem = fun _ => 0) :=
  RDat.θ_run_frame_track (Q' := _) cfgs (0 : Fin 1) launch0 defs₀ Variants.none
    (fun c => (dats m Rel 0 c).toRRel marked (keeps Out c)) m ρ main
    (hbody := fun c => (obligation m Rel Out hA hB c).toRRel) (hshare := fun c => (dats m Rel 0 c).share_full fun _ => rfl)
    (howed := fun _ _ => rfl) (V := V m) (hmain := hmain m Variants.none) (hA := A_eq m Rel)
    (hin := fun c => held_of_launched _ (h0 c) c) (hout := fun c => launched_of_held _ c)

include ρ in
theorem unchanged (r : PUnit × MemSt nD τ sig (Elt F))
    (h : RDat.FramePost (cfgs 0) (fun c => (dats m Rel 0 c).toRRel marked (keeps Out c)) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(RDat.FramePost.arr_in h c 1 rfl).trans ((A_eq m Rel c 1).trans (V_main_arg0 m c)),
      (RDat.FramePost.arr_in h c 0 rfl).trans ((A_eq m Rel c 0).trans (V_main_arg1 m c)),
      (RDat.FramePost.arr_in h c 2 rfl).trans ((A_eq m Rel c 2).trans (V_main_arg2 m c)),
      (RDat.FramePost.arr_in h c 3 rfl).trans ((A_eq m Rel c 3).trans (V_main_arg3 m c)),
      ((h c).2 main_arg4 (Pipeline.mem_restRefs_of main_arg4 (by decide) (by decide))).trans (V_main_arg4 m c),
      (RDat.FramePost.arr_in h c 5 rfl).trans ((A_eq m Rel c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩

/-- The frame: the arguments are unchanged at the end, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono
    (fun r h => ⟨unchanged m ρ (fun _ _ _ => True) (fun _ _ _ => True) r h.1, h.2⟩)
    (run m ρ (fun _ _ _ => True) (fun _ _ _ => True) (fun _ _ _ _ _ _ => ⟨trivial, trivial⟩) (fun _ _ _ _ _ _ => ⟨trivial, trivial⟩)
      fun _ _ => trivial)

end Cert.KernelIdeal.Mixer

end
-- ==== Proof.Mixer.Pure.lean ====
/- The arithmetic of extended reals behind the mixer: first order linear recurrences by composition of affine maps, and
   two ways to write the logarithm of the logistic function and the gain of the recurrence. -/
module

public import Idealize.ShloMosaic.Lib.Pointwise
public import Idealize.ShloMosaic.Lib.IdealHost

@[expose] public section

noncomputable section

namespace Cert.Mixer

open Idealize.ShloMosaic

/-- A decay: a real factor that is not negative. -/
def Decay (x : EReal) : Prop := ∃ r : ℝ, 0 ≤ r ∧ x = (r : EReal)

theorem Decay.one : Decay 1 := ⟨1, zero_le_one, rfl⟩

theorem Decay.mul {x y : EReal} (hx : Decay x) (hy : Decay y) : Decay (x * y) := by
  obtain ⟨r, hr, rfl⟩ := hx
  obtain ⟨s, hs, rfl⟩ := hy
  exact ⟨r * s, mul_nonneg hr hs, (EReal.coe_mul r s).symm⟩

theorem Decay.mul_add {x : EReal} (hx : Decay x) (y z : EReal) : x * (y + z) = x * y + x * z := by
  obtain ⟨r, hr, rfl⟩ := hx
  exact EReal.left_distrib_of_nonneg_of_ne_top (EReal.coe_nonneg.mpr hr) (EReal.coe_ne_top r) y z

/-- The product of the last `k` decays up to `i`. -/
def prodTo (a : ℕ → EReal) : ℕ → ℕ → EReal
  | 0, _ => 1
  | k + 1, i => prodTo a k i * a (i - k)

/-- What the last `k` inputs up to `i` have left at `i`. -/
def sumTo (a u : ℕ → EReal) : ℕ → ℕ → EReal
  | 0, _ => 0
  | k + 1, i => sumTo a u k i + prodTo a k i * u (i - k)

variable {a u : ℕ → EReal}

theorem prodTo_one (i : ℕ) : prodTo a 1 i = a i := by simp [prodTo]

theorem sumTo_one (i : ℕ) : sumTo a u 1 i = u i := by simp [sumTo, prodTo]

theorem prodTo_decay (ha : ∀ i, Decay (a i)) (k i : ℕ) : Decay (prodTo a k i) := by
  induction k with
  | zero => exact Decay.one
  | succ k ih => exact ih.mul (ha _)

theorem prodTo_add (k l i : ℕ) : prodTo a (k + l) i = prodTo a k i * prodTo a l (i - k) := by
  induction l with
  | zero => simp [prodTo]
  | succ l ih => rw [← Nat.add_assoc, prodTo, ih, prodTo, Nat.sub_sub, mul_assoc]

/-- Two runs of inputs, one after the other, leave what the later leaves and what of the earlier has not decayed. -/
theorem sumTo_add (ha : ∀ i, Decay (a i)) (k l i : ℕ) :
    sumTo a u (k + l) i = sumTo a u k i + prodTo a k i * sumTo a u l (i - k) := by
  induction l with
  | zero => simp [sumTo]
  | succ l ih =>
    rw [← Nat.add_assoc, sumTo, ih, sumTo, (prodTo_decay ha k i).mul_add, prodTo_add, Nat.sub_sub, add_assoc, mul_assoc]

/-- The state of the recurrence `x i = a i * x (i - 1) + u i` that begins at zero. -/
def state (a u : ℕ → EReal) (i : ℕ) : EReal := sumTo a u (i + 1) i

/-- Sums over a shifted sequence are the sequence's own as long as they stay within it. -/
theorem prodTo_shift (s k i : ℕ) (h : k ≤ i + 1) : prodTo (fun j => a (s + j)) k i = prodTo a k (s + i) := by
  induction k with
  | zero => rfl
  | succ k ih => rw [prodTo, prodTo, ih (by omega), show s + (i - k) = s + i - k by omega]

theorem sumTo_shift (s k i : ℕ) (h : k ≤ i + 1) :
    sumTo (fun j => a (s + j)) (fun j => u (s + j)) k i = sumTo a u k (s + i) := by
  induction k with
  | zero => rfl
  | succ k ih => rw [sumTo, sumTo, ih (by omega), prodTo_shift _ _ _ (by omega), show s + (i - k) = s + i - k by omega]

theorem sumTo_congr {u' : ℕ → EReal} (k i : ℕ) (h : ∀ j < k, u (i - j) = u' (i - j)) : sumTo a u k i = sumTo a u' k i := by
  induction k with
  | zero => rfl
  | succ k ih => rw [sumTo, sumTo, ih fun j hj => h j (by omega), h k (by omega)]

/-- A block of the recurrence, begun at position `s` with the state `x` before it folded into its first input, goes on
    as the whole recurrence does. -/
theorem state_block (ha : ∀ i, Decay (a i)) (s i : ℕ) (x : EReal) (hx : x = if s = 0 then 0 else state a u (s - 1)) :
    state (fun j => a (s + j)) (fun j => u (s + j) + if j = 0 then a (s + j) * x else 0) i = state a u (s + i) := by
  have hfirst : state (fun j => a (s + j)) (fun j => u (s + j) + if j = 0 then a (s + j) * x else 0) i
      = sumTo a u (i + 1) (s + i) + prodTo a (i + 1) (s + i) * x := by
    have e : ∀ j < i, (u (s + (i - j)) + if i - j = 0 then a (s + (i - j)) * x else 0) = u (s + (i - j)) := by
      intro j hj
      simp [show ¬ (i - j = 0) by omega]
    rw [state, sumTo, sumTo_congr (u' := fun j => u (s + j)) _ _ e, sumTo_shift _ _ _ (by omega), prodTo_shift _ _ _ (by omega)]
    simp only [Nat.sub_self, if_true, Nat.add_zero]
    rw [(prodTo_decay ha _ _).mul_add, ← add_assoc, ← mul_assoc, sumTo, prodTo, show s + i - i = s by omega]
  rw [hfirst, hx]
  rcases Nat.eq_zero_or_pos s with rfl | hs
  · simp [state]
  · rw [if_neg (by omega), state, state, show s + i + 1 = (i + 1) + s by omega, sumTo_add ha (i + 1) s,
      show s + i - (i + 1) = s - 1 by omega, show s - 1 + 1 = s by omega]

/-- One doubling of a block's scan: at a position with enough before it, the last `2 * k`. -/
theorem prodTo_double (k i : ℕ) (h : k ≤ i) :
    prodTo a (min k (i + 1)) i * prodTo a (min k (i - k + 1)) (i - k) = prodTo a (min (k + k) (i + 1)) i := by
  rw [show min k (i + 1) = k by omega, ← prodTo_add, show k + min k (i - k + 1) = min (k + k) (i + 1) by omega]

theorem sumTo_double (ha : ∀ i, Decay (a i)) (k i : ℕ) (h : k ≤ i) :
    prodTo a (min k (i + 1)) i * sumTo a u (min k (i - k + 1)) (i - k) + sumTo a u (min k (i + 1)) i
      = sumTo a u (min (k + k) (i + 1)) i := by
  rw [show min k (i + 1) = k by omega, add_comm, ← sumTo_add ha, show k + min k (i - k + 1) = min (k + k) (i + 1) by omega]

theorem exp_decay {x : EReal} (hx : x ≤ 0) : Decay (Ideal.exp x) := by
  induction x with
  | bot => exact ⟨0, le_rfl, rfl⟩
  | coe r => exact ⟨Real.exp r, (Real.exp_pos r).le, rfl⟩
  | top => simp at hx

/-- The gain of the recurrence's input, by the hyperbolic tangent and by the exponential. -/
theorem gain_eq {x : EReal} (hx : x ≤ 0) :
    Ideal.sqrt (Ideal.div (((-2 : ℝ) : EReal) * Ideal.tanh x) (1 - Ideal.tanh x))
      = Ideal.sqrt (-(Ideal.exp (((2 : ℝ) : EReal) * x) - 1)) := by
  induction x with
  | bot =>
    rw [show ((2 : ℝ) : EReal) * ⊥ = ⊥ from EReal.coe_mul_bot_of_pos two_pos]
    congr 1
    show Ideal.div (((-2 : ℝ) : EReal) * -1) (1 - -1) = -(0 - 1)
    have h2 : (1 - -1 : EReal) = ((2 : ℝ) : EReal) := by
      rw [show (1 : EReal) = ((1 : ℝ) : EReal) from rfl, ← EReal.coe_neg, ← EReal.coe_sub]
      norm_num
    rw [h2, Ideal.div, if_neg (EReal.coe_ne_zero.mpr two_ne_zero)]
    rw [show (1 : EReal) = ((1 : ℝ) : EReal) from rfl, ← EReal.coe_neg, ← EReal.coe_mul, ← EReal.coe_inv, ← EReal.coe_mul,
      show (0 : EReal) = ((0 : ℝ) : EReal) from rfl, ← EReal.coe_sub, ← EReal.coe_neg]
    norm_num
  | coe r =>
    congr 1
    rw [← EReal.coe_mul]
    show Ideal.div (((-2 : ℝ) : EReal) * (Real.tanh r : EReal)) (1 - (Real.tanh r : EReal)) = -((Real.exp (2 * r) : EReal) - 1)
    have e1 : Real.tanh r = (Real.exp r - Real.exp (-r)) / (Real.exp r + Real.exp (-r)) := Real.tanh_eq r
    have hp := Real.exp_pos r
    have hn := Real.exp_pos (-r)
    have hne : (1 - Real.tanh r) ≠ 0 := by
      rw [e1]
      have : (1 - (Real.exp r - Real.exp (-r)) / (Real.exp r + Real.exp (-r))) = 2 * Real.exp (-r) / (Real.exp r + Real.exp (-r)) := by
        field_simp
        ring
      rw [this]
      positivity
    rw [show (1 : EReal) = ((1 : ℝ) : EReal) from rfl, ← EReal.coe_mul, ← EReal.coe_sub, Ideal.div,
      if_neg (by exact_mod_cast hne), ← EReal.coe_inv, ← EReal.coe_mul, ← EReal.coe_sub, ← EReal.coe_neg]
    congr 1
    have e2 : Real.exp (2 * r) = Real.exp r * Real.exp r := by rw [two_mul, Real.exp_add]
    have e3 : Real.exp r * Real.exp (-r) = 1 := by rw [← Real.exp_add]; simp
    rw [← div_eq_mul_inv, div_eq_iff hne, e1, e2]
    have hs : Real.exp r + Real.exp (-r) ≠ 0 := by positivity
    field_simp
    nlinarith [e3]
  | top => simp at hx

end Cert.Mixer

end
-- ==== Proof.Mixer.Spec.lean ====
/-
  The mixer written out entry by entry, on the extended reals: the gated convolution, the local attention with sinks and
  the gated recurrence, each followed by its norm and its gate. Both programs are shown to compute these.
-/
module

public import proofs.«01_k».proof.Proof.Mixer.Pure

@[expose] public section

noncomputable section

namespace Cert.Mixer

open Idealize.ShloMosaic

/-- The operands, each read by its indices as plain numbers. -/
structure Layer where
  h : ℕ → ℕ → EReal
  sinks : ℕ → EReal
  caw : ℕ → ℕ → EReal
  ccw : ℕ → ℕ → EReal
  ccb : ℕ → EReal
  wg : ℕ → ℕ → ℕ → EReal
  br : ℕ → EReal
  bi : ℕ → EReal
  lam : ℕ → EReal
  na : ℕ → EReal
  nb : ℕ → EReal
  nc : ℕ → EReal

/-- The logarithm of the decay of a channel with parameter `x` under the gate `g`. -/
def logDecay (g x : EReal) : EReal :=
  Ideal.ofBits FTy.f32 1090519040#32 * Ideal.logistic g * (min x 0 - Ideal.log1p (Ideal.exp (0 - max x (-x))))

/-- The input of the recurrence, from the logarithm of the decay, the gate and the value. -/
def gained (l g x : EReal) : EReal :=
  Ideal.sqrt (Ideal.div (((-2 : ℝ) : EReal) * Ideal.tanh l) (1 - Ideal.tanh l)) * (Ideal.logistic g * x)

/-- One entry of a normed and gated row: `N` is the row's length, `y` the row. -/
def rmsGate (N : EReal) {n : ℕ} (y : Fin n → EReal) (x gain g : EReal) : EReal :=
  x * Ideal.rsqrt (Ideal.div (∑ j, y j * y j) N + Ideal.ofBits FTy.f32 897988541#32) * gain * (g * Ideal.logistic g)

/-- The greatest of a query's scores and its sink. -/
def top (S : Fin 256 → EReal) (sink : EReal) : EReal := max (Finset.univ.fold max ⊥ S) sink

/-- What one query takes of the values `V` under the scores `S`. -/
def attend (S : Fin 256 → EReal) (sink : EReal) (V : Fin 256 → EReal) : EReal :=
  Ideal.div (∑ j, Ideal.exp (S j - top S sink) * V j)
    (∑ j, Ideal.exp (S j - top S sink) + Ideal.exp (sink - top S sink))

namespace Layer

variable (L : Layer)

/-- Entry `c` of position `s` of sequence `b`. -/
def row (b s c : ℕ) : EReal := L.h (b * 2048 + s) c

/-- The first convolution's input, and what it was `k` positions before. -/
def pa (b s c : ℕ) : EReal := L.row b s (1024 + c) * L.row b s (2048 + c)

def paBack (b s k c : ℕ) : EReal := if k ≤ s then L.pa b (s - k) c else 0

/-- The gated convolution. -/
def ya (b s c : ℕ) : EReal :=
  L.row b s c * (L.caw 0 c * L.paBack b s 2 c + L.caw 1 c * L.paBack b s 1 c + L.caw 2 c * L.pa b s c)

/-- The second convolution's input `k` positions before. -/
def cxBack (b s k c : ℕ) : EReal := if k ≤ s then L.row b (s - k) (8704 + c) else 0

/-- The second convolution. -/
def xc (b s c : ℕ) : EReal :=
  L.ccw 0 c * L.cxBack b s 3 c + L.ccw 1 c * L.cxBack b s 2 c + L.ccw 2 c * L.cxBack b s 1 c
    + L.ccw 3 c * L.row b s (8704 + c) + L.ccb c

/-- A gate of the recurrence before its bias: `o` chooses which. -/
def gate (o b s c : ℕ) : EReal :=
  ∑ x : Fin 128, L.xc b s (c / 128 * 128 + x.val) * L.wg (c / 128) x.val (o + c % 128)

def la (b s c : ℕ) : EReal := logDecay (L.gate 0 b s c + L.br c) (L.lam c)

def a (b s c : ℕ) : EReal := Ideal.exp (L.la b s c)

def u (b s c : ℕ) : EReal := gained (L.la b s c) (L.gate 128 b s c + L.bi c) (L.xc b s c)

/-- The recurrence's state. -/
def hid (b s c : ℕ) : EReal := state (fun j => L.a b j c) (fun j => L.u b j c) s

/-- The position of the `j`-th key that position `s` sees is `seen s j - 128`: the 128 before its block and the block. -/
def seen (s j : ℕ) : ℕ := s / 128 * 128 + j

/-- The product of a query with the `j`-th key it sees. -/
def dots (b s hd j : ℕ) : EReal :=
  ∑ d : Fin 64, L.row b s (4096 + (hd * 64 + d.val)) * ((0.125 : ℝ) : EReal)
    * (if 128 ≤ seen s j then L.row b (seen s j - 128) (6144 + (hd / 8 * 64 + d.val)) else 0)

/-- Its score: the keys outside the window, or before the sequence, are put far away. -/
def score (b s hd j : ℕ) : EReal :=
  if s % 128 < j ∧ j ≤ s % 128 + 128 ∧ 128 ≤ seen s j then L.dots b s hd j else Ideal.ofBits FTy.f32 4048155338#32

def value (b s hd j d : ℕ) : EReal :=
  if 128 ≤ seen s j then L.row b (seen s j - 128) (6400 + (hd / 8 * 64 + d)) else 0

/-- The local attention. -/
def yb (b s c : ℕ) : EReal :=
  attend (fun j => L.score b s (c / 64) j.val) (L.sinks (c / 64)) (fun j => L.value b s (c / 64) j.val (c % 64))

/-- The mixer's result. -/
def out (b s c : ℕ) : EReal :=
  if c < 1024 then
    rmsGate (Ideal.ofBits FTy.f32 1149239296#32) (fun j : Fin 1024 => L.ya b s j.val) (L.ya b s c) (L.na c) (L.row b s (3072 + c))
  else if c < 3072 then
    rmsGate (Ideal.ofBits FTy.f32 1157627904#32) (fun j : Fin 2048 => L.yb b s j.val) (L.yb b s (c - 1024)) (L.nb (c - 1024))
      (L.row b s (6656 + (c - 1024)))
  else
    rmsGate (Ideal.ofBits FTy.f32 1149239296#32) (fun j : Fin 1024 => L.hid b s j.val) (L.hid b s (c - 3072)) (L.nc (c - 3072))
      (L.row b s (9728 + (c - 3072)))

end Layer

/-! ## The decay is at most one -/

theorem exp_nonneg (x : EReal) : 0 ≤ Ideal.exp x := by
  induction x with
  | bot => exact le_rfl
  | coe r => exact EReal.coe_nonneg.mpr (Real.exp_pos r).le
  | top => exact le_top

theorem logistic_nonneg (x : EReal) : 0 ≤ Ideal.logistic x := by
  have h : 0 ≤ 1 + Ideal.exp (-x) := add_nonneg zero_le_one (exp_nonneg _)
  have h0 : 1 + Ideal.exp (-x) ≠ 0 := by
    intro e
    have : (1 : EReal) ≤ 1 + Ideal.exp (-x) := le_add_of_nonneg_right (exp_nonneg _)
    rw [e] at this
    exact absurd this (not_le.mpr zero_lt_one)
  rw [Ideal.logistic, Ideal.div, if_neg h0, one_mul]
  exact EReal.inv_nonneg_of_nonneg h

/-- The logarithm in the decay is of a finite number at least one. -/
theorem log1p_real (x : EReal) : ∃ r : ℝ, 0 ≤ r ∧ Ideal.log1p (Ideal.exp (0 - max x (-x))) = r := by
  have key : ∃ e : ℝ, 0 ≤ e ∧ Ideal.exp (0 - max x (-x)) = e := by
    induction x with
    | bot => exact ⟨0, le_rfl, by rw [show (0 - max ⊥ (-⊥) : EReal) = ⊥ by simp]; rfl⟩
    | top => exact ⟨0, le_rfl, by rw [show (0 - max ⊤ (-⊤) : EReal) = ⊥ by simp]; rfl⟩
    | coe r =>
      refine ⟨Real.exp (0 - max r (-r)), (Real.exp_pos _).le, ?_⟩
      rw [← EReal.coe_neg, ← EReal.coe_strictMono.monotone.map_max, ← EReal.coe_zero, ← EReal.coe_sub]
      rfl
  obtain ⟨e, he, h⟩ := key
  refine ⟨Real.log (1 + e), Real.log_nonneg (by linarith), ?_⟩
  rw [h, Ideal.log1p, ← EReal.coe_one, ← EReal.coe_add]
  show (if 1 + e ≤ 0 then (⊥ : EReal) else _) = _
  rw [if_neg (by linarith)]

theorem eight : Ideal.ofBits FTy.f32 1090519040#32 = ((8 : ℝ) : EReal) := by
  simp [Ideal.ofBits, Ideal.ieee, -EReal.coe_mul]; norm_num

theorem logDecay_nonpos (g x : EReal) : logDecay g x ≤ 0 := by
  obtain ⟨r, hr, e⟩ := log1p_real x
  rw [logDecay, e, eight]
  refine mul_nonpos_of_nonneg_of_nonpos (mul_nonneg (by exact_mod_cast (by norm_num : (0 : ℝ) ≤ 8)) (logistic_nonneg g)) ?_
  rw [sub_eq_add_neg]
  exact add_nonpos (min_le_right _ _) (by exact_mod_cast (by linarith : -r ≤ 0))

/-- The decay's logarithm by the softplus of the negated parameter. -/
theorem softplus_eq (x : EReal) :
    -(max (-x) 0 + Ideal.log1p (Ideal.exp (-(max (-x) x)))) = min x 0 - Ideal.log1p (Ideal.exp (0 - max x (-x))) := by
  obtain ⟨r, hr, e⟩ := log1p_real x
  rw [max_comm (-x) x, ← zero_sub (max x (-x)), e, EReal.neg_add (Or.inr (EReal.coe_ne_top r)) (Or.inr (EReal.coe_ne_bot r))]
  congr 1
  rcases le_total x 0 with h | h
  · rw [min_eq_left h, max_eq_left (EReal.neg_nonneg.mpr h), neg_neg]
  · rw [min_eq_right h, max_eq_right (by rwa [EReal.neg_le, neg_zero]), neg_zero]

/-! ## The attention's weights -/

/-- What is times a fixed decay goes through a sum. -/
theorem sum_decay {ι : Type} (s : Finset ι) (f : ι → EReal) {x : EReal} (hx : Decay x) :
    (∑ j ∈ s, f j) * x = ∑ j ∈ s, f j * x := by
  classical
  induction s using Finset.induction_on with
  | empty => simp
  | insert i s hi ih => rw [Finset.sum_insert hi, Finset.sum_insert hi, mul_comm, hx.mul_add, mul_comm x, mul_comm x, ih]

theorem inv_decay {x : EReal} (h0 : 0 ≤ x) (h : x ≠ 0) : Decay x⁻¹ := by
  induction x with
  | bot => simp at h0
  | coe r => exact ⟨r⁻¹, inv_nonneg.mpr (EReal.coe_nonneg.mp h0), (EReal.coe_inv r).symm⟩
  | top => exact ⟨0, le_rfl, EReal.inv_top⟩

/-- The sum a query divides by. -/
def weights (S : Fin 256 → EReal) (sink : EReal) : EReal :=
  ∑ j, Ideal.exp (S j - top S sink) + Ideal.exp (sink - top S sink)

theorem weights_nonneg (S : Fin 256 → EReal) (sink : EReal) : 0 ≤ weights S sink :=
  add_nonneg (Finset.sum_nonneg fun _ _ => exp_nonneg _) (exp_nonneg _)

theorem exp_ne {x : EReal} (h : x ≠ ⊥) : Ideal.exp x ≠ 0 := by
  induction x with
  | bot => exact absurd rfl h
  | coe r => exact fun e => (Real.exp_pos r).ne' (EReal.coe_eq_zero.mp e)
  | top => exact fun e => EReal.top_ne_zero e

/-- It is not zero as long as no score is infinitely great and one is not infinitely small. -/
theorem weights_ne {S : Fin 256 → EReal} {sink : EReal} (hS : ∀ j, S j ≠ ⊤) (hs : sink ≠ ⊤) (j : Fin 256) (hj : S j ≠ ⊥) :
    weights S sink ≠ 0 := by
  have ht : top S sink ≠ ⊤ := by
    rw [top, ← lt_top_iff_ne_top, max_lt_iff, Finset.fold_max_lt]
    exact ⟨⟨bot_lt_top, fun i _ => lt_top_iff_ne_top.mpr (hS i)⟩, lt_top_iff_ne_top.mpr hs⟩
  have he : Ideal.exp (S j - top S sink) ≠ 0 := by
    refine exp_ne fun e => ?_
    rw [sub_eq_add_neg, EReal.add_eq_bot_iff, EReal.neg_eq_bot_iff] at e
    exact e.elim hj ht
  intro e
  have h1 : Ideal.exp (S j - top S sink) ≤ weights S sink :=
    (Finset.single_le_sum (f := fun i => Ideal.exp (S i - top S sink)) (fun _ _ => exp_nonneg _) (Finset.mem_univ j)).trans
      (le_add_of_nonneg_right (exp_nonneg _))
  exact he (le_antisymm (e ▸ h1) (exp_nonneg _))

/-- Weights divided one by one take the same of the values as a sum divided at the end. -/
theorem attend_eq {S : Fin 256 → EReal} {sink : EReal} (h : weights S sink ≠ 0) (V : Fin 256 → EReal) :
    ∑ j, V j * Ideal.div (Ideal.exp (S j - top S sink)) (weights S sink) = attend S sink V := by
  rw [attend, ← weights, Ideal.div, if_neg h, sum_decay _ _ (inv_decay (weights_nonneg _ _) h)]
  refine Finset.sum_congr rfl fun j _ => ?_
  rw [Ideal.div, if_neg h, mul_comm (V j), mul_assoc, mul_assoc, mul_comm (V j)]

/-- An entry that is a real number. -/
def IsReal (x : EReal) : Prop := ∃ r : ℝ, x = (r : EReal)

theorem IsReal.mul {x y : EReal} (hx : IsReal x) (hy : IsReal y) : IsReal (x * y) := by
  obtain ⟨r, rfl⟩ := hx
  obtain ⟨t, rfl⟩ := hy
  exact ⟨r * t, (EReal.coe_mul r t).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert i s hi ih =>
    rw [Finset.sum_insert hi]
    obtain ⟨r, hr⟩ := h i
    obtain ⟨t, ht⟩ := ih
    exact ⟨r + t, by rw [hr, ht, EReal.coe_add]⟩

/-- The queries, the keys and the sinks are real numbers. -/
structure Layer.Finite (L : Layer) : Prop where
  qk : ∀ i j, 4096 ≤ j → j < 6400 → IsReal (L.h i j)
  sinks : ∀ i, IsReal (L.sinks i)

theorem far : IsReal (Ideal.ofBits FTy.f32 4048155338#32) := by
  refine ⟨-(13234890 * 2 ^ 76), ?_⟩
  simp [Ideal.ofBits, Ideal.ieee, -EReal.coe_mul]

theorem score_real {L : Layer} (H : L.Finite) (b s hd j : ℕ) (h : hd < 32) : IsReal (L.score b s hd j) := by
  unfold Layer.score
  split
  · refine IsReal.sum _ _ fun d => ?_
    have := d.isLt
    refine ((H.qk _ _ (by omega) (by omega)).mul ⟨_, rfl⟩).mul ?_
    split
    · exact H.qk _ _ (by omega) (by omega)
    · exact ⟨0, rfl⟩
  · exact far

theorem score_weights {L : Layer} (H : L.Finite) (b s hd : ℕ) (h : hd < 32) :
    weights (fun j => L.score b s hd j.val) (L.sinks hd) ≠ 0 := by
  have ht : ∀ j : Fin 256, L.score b s hd j.val ≠ ⊤ := fun j => by
    obtain ⟨r, e⟩ := score_real H b s hd j.val h
    rw [e]
    exact EReal.coe_ne_top r
  refine weights_ne ht ?_ 0 ?_
  · obtain ⟨r, e⟩ := H.sinks hd
    rw [e]
    exact EReal.coe_ne_top r
  · obtain ⟨r, e⟩ := score_real H b s hd (0 : Fin 256).val h
    rw [e]
    exact EReal.coe_ne_bot r

end Cert.Mixer

end
-- ==== Proof.Mixer.RefParts.lean ====
/-
  The reference's parts, entry by entry: the convolutions, the decay and the input of the recurrence.
-/
module

public import proofs.«01_k».proof.Proof.Gen.ReferenceIdeal.Run
public import proofs.«01_k».proof.Proof.Mixer.Spec
public import Idealize.ShloMosaic.Lib.Tactic.CleanTypes

@[expose] public section

set_option maxRecDepth 16384

noncomputable section

namespace Cert.ReferenceIdeal.Mixer

open Idealize.ShloMosaic Cert.ReferenceIdeal Cert.ReferenceIdeal.Gen Cert.ReferenceIdeal.Value
open Idealize.ShloMosaic.StableHlo Idealize.ShloMosaic.TcCoe
open Cert.Mixer (Layer)

/-- The operands' buffers hold what `L` says. -/
structure Reads (L : Layer) (V0 : Valuation τ sig (Elt Ideal)) : Prop where
  h : ∀ (i : Fin 8192) (j : Fin 10752), V0 (Proc.tc.devRef main_arg0) (ix2 i j) = L.h i.val j.val
  sinks : ∀ i : Fin 32, V0 (Proc.tc.devRef main_arg1) (ix1 i) = L.sinks i.val
  caw : ∀ (i : Fin 3) (j : Fin 1024), V0 (Proc.tc.devRef main_arg2) (ix2 i j) = L.caw i.val j.val
  ccw : ∀ (i : Fin 4) (j : Fin 1024), V0 (Proc.tc.devRef main_arg3) (ix2 i j) = L.ccw i.val j.val
  ccb : ∀ i : Fin 1024, V0 (Proc.tc.devRef main_arg4) (ix1 i) = L.ccb i.val
  wg : ∀ (i : Fin 8) (j : Fin 128) (k : Fin 256), V0 (Proc.tc.devRef main_arg5) (ix3 i j k) = L.wg i.val j.val k.val
  br : ∀ i : Fin 1024, V0 (Proc.tc.devRef main_arg6) (ix1 i) = L.br i.val
  bi : ∀ i : Fin 1024, V0 (Proc.tc.devRef main_arg7) (ix1 i) = L.bi i.val
  lam : ∀ i : Fin 1024, V0 (Proc.tc.devRef main_arg8) (ix1 i) = L.lam i.val
  na : ∀ i : Fin 1024, V0 (Proc.tc.devRef main_arg9) (ix1 i) = L.na i.val
  nb : ∀ i : Fin 2048, V0 (Proc.tc.devRef main_arg10) (ix1 i) = L.nb i.val
  nc : ∀ i : Fin 1024, V0 (Proc.tc.devRef main_arg11) (ix1 i) = L.nc i.val

variable {L : Layer} {V0 : Valuation τ sig (Elt Ideal)} (H : Reads L V0)

theorem zero_eq : (FloatOps.sitofp FTy.f32 0#32 : Ideal FTy.f32) = 0 := by
  simp [FloatOps.sitofp]

theorem two_eq : Ideal.ofBits FTy.f32 1073741824#32 = ((2 : ℝ) : EReal) := by
  simp [Ideal.ofBits, Ideal.ieee, -EReal.coe_mul]; norm_num

include H

theorem row (b : Fin 4) (s : Fin 2048) (c : Fin 10752) : res_main_v1 V0 (ix3 b s c) = L.row b.val s.val c.val := by
  pointwise [res_main_v1]
  exact H.h _ _

theorem ya (b : Fin 4) (s : Fin 2048) (c : Fin 1024) : res_main_v34 V0 (ix3 b s c) = L.ya b.val s.val c.val := by
  pointwise [res_main_v34, res_main_v13]
  simp only [row H, H.caw, zero_eq, Layer.ya, Layer.paBack, Layer.pa, dite_eq_ite]
  have e1 : (2 ≤ s.val ∧ s.val - 2 < 2048) ↔ 2 ≤ s.val := by omega
  have e2 : (2 ≤ 1 + s.val ∧ s.val - 1 < 2048) ↔ 1 ≤ s.val := by omega
  simp only [e1, e2, show 1 + s.val - 2 = s.val - 1 by omega, mul_comm (L.caw _ _)]
  rfl

theorem xc (b : Fin 4) (s : Fin 2048) (c : Fin 1024) : res_main_v131 V0 (ix3 b s c) = L.xc b.val s.val c.val := by
  pointwise [res_main_v131, res_main_v101]
  simp only [row H, H.ccw, H.ccb, zero_eq, Layer.xc, Layer.cxBack, dite_eq_ite]
  have e1 : (3 ≤ s.val ∧ s.val - 3 < 2048) ↔ 3 ≤ s.val := by omega
  have e2 : (3 ≤ 1 + s.val ∧ s.val - 2 < 2048) ↔ 2 ≤ s.val := by omega
  have e3 : (3 ≤ 2 + s.val ∧ s.val - 1 < 2048) ↔ 1 ≤ s.val := by omega
  simp only [e1, e2, e3, show 1 + s.val - 3 = s.val - 2 by omega, show 2 + s.val - 3 = s.val - 1 by omega,
    mul_comm (L.ccw _ _)]
  rfl

theorem la (b : Fin 4) (s : Fin 2048) (c : Fin 1024) : res_main_v165 V0 (ix3 b s c) = L.la b.val s.val c.val := by
  pointwise [res_main_v165, res_main_v132, res_main_v135, res_main_call5_call0_v3, res_main_call5_v0, res_main_call5_call0_cst]
  simp only [xc H, H.wg, H.br, H.lam, Layer.la, Cert.Mixer.logDecay, Layer.gate, ne_eq, not_true_eq_false, if_false]
  rw [show FloatOps.absf (F := Ideal) (φ := .f32) (-L.lam c.val) = max (-L.lam c.val) (L.lam c.val) from
    congrArg (max _) (neg_neg _), Cert.Mixer.softplus_eq]
  simp only [Nat.zero_add, mul_comm (L.wg _ _ _)]
  rfl

theorem u (b : Fin 4) (s : Fin 2048) (c : Fin 1024) : res_main_v173 V0 (ix3 b s c) = L.u b.val s.val c.val := by
  pointwise [res_main_v173, res_main_v132, res_main_v135]
  simp only [xc H, H.wg, H.bi, la H, Layer.u, Cert.Mixer.gained, Layer.gate]
  rw [Cert.Mixer.gain_eq (show L.la b.val s.val c.val ≤ 0 from Cert.Mixer.logDecay_nonpos _ _), two_eq]
  simp only [mul_comm (L.wg _ _ _)]
  rfl

end Cert.ReferenceIdeal.Mixer

end
-- ==== Proof.Mixer.RefAttend.lean ====
/-
  The reference's local attention, entry by entry.
-/
module

public import proofs.«01_k».proof.Proof.Mixer.RefParts
public import Idealize.ShloMosaic.Lib.KernelVsHost
public import Idealize.ShloMosaic.Lib.WordCmp

@[expose] public section

set_option maxRecDepth 16384

noncomputable section

namespace Cert.ReferenceIdeal.Mixer

open Idealize.ShloMosaic Cert.ReferenceIdeal Cert.ReferenceIdeal.Gen Cert.ReferenceIdeal.Value
open Idealize.ShloMosaic.StableHlo Idealize.ShloMosaic.TcCoe
open Idealize.ShloMosaic.WordCmp
open Cert.Mixer (Layer)

/-- A position's distance to the key that comes `k`-th in its two blocks. -/
theorem distance {q k : ℕ} (hq : q < 128) (hk : k < 256) :
    (IntOp.subi (IntOp.addi (BitVec.ofNat 32 q) 128#32) (BitVec.ofNat 32 k)).toInt = (q : ℤ) + 128 - k := by
  show (BitVec.ofNat 32 q + 128#32 - BitVec.ofNat 32 k).toInt = _
  rw [BitVec.toInt_sub, BitVec.toInt_add, toInt_ofNat_of_lt (a := q) (by omega), toInt_ofNat_of_lt (a := k) (by omega)]
  simp [Int.bmod]
  omega

/-- The choice the mask makes. -/
theorem masked {s q k : ℕ} (hs : s < 16) (hq : q < 128) (hk : k < 256) (A B : EReal) :
    Scalar.select
      (IntOp.andi
        (IntOp.andi
          (IntOp.cmpi CmpIPredicate.sge (IntOp.subi (IntOp.addi (BitVec.ofNat 32 q) 128#32) (BitVec.ofNat 32 k)) 0#32)
          (IntOp.cmpi CmpIPredicate.slt (IntOp.subi (IntOp.addi (BitVec.ofNat 32 q) 128#32) (BitVec.ofNat 32 k)) 128#32))
        (IntOp.ori (IntOp.cmpi CmpIPredicate.sgt (BitVec.ofNat 32 s) 0#32)
          (IntOp.cmpi CmpIPredicate.sge (BitVec.ofNat 32 k) 128#32))) A B
      = if q < k ∧ k ≤ q + 128 ∧ 128 ≤ s * 128 + k then A else B := by
  rw [cmpi_sge_eq, cmpi_slt_eq, distance hq hk, cmpi_sgt_ofNat (by omega) (by omega), cmpi_sge_ofNat (by omega) (by omega),
    show decide ((0#32).toInt ≤ (q : ℤ) + 128 - k) = decide (k ≤ q + 128) from decide_eq_decide.mpr (by simp; omega),
    show decide ((q : ℤ) + 128 - k < (128#32).toInt) = decide (q < k) from decide_eq_decide.mpr (by simp; omega)]
  by_cases h1 : k ≤ q + 128 <;> by_cases h2 : q < k <;> by_cases h3 : 0 < s <;> by_cases h4 : 128 ≤ k
  all_goals simp [IntOp.andi, IntOp.ori, Scalar.select, h1, h2, h3, h4]
  all_goals omega

/-- Two blocks of positions, the one before and the own, one after the other. -/
theorem both (X : S4x16x128x4x64.Idx → Ideal .f32) (b : Fin 4) (s : Fin 16) (k : Fin 256) (h : Fin 4) (x : Fin 64) :
    (concatenate S4x16x256x4x64 2 [⟨S4x16x128x4x64, (extractStridedSlice S4x16x128x4x64 ![0, 0, 0, 0, 0] (pad S4x17x128x4x64 ![0, 1, 0, 0, 0] ![0, 0, 0, 0, 0] ![0, 0, 0, 0, 0] X (sitofp .f32 (constantI S_ 32 0#32)) pads_S4x16x128x4x64_S4x17x128x4x64_000_100_000_000_000 h_S_) slices_S4x17x128x4x64_S4x16x128x4x64_0_0_0_0_0)⟩, ⟨S4x16x128x4x64, X⟩] concatenates_S4x16x128x4x64_S4x16x128x4x64_S4x16x256x4x64_d2 : S4x16x256x4x64.Idx → Ideal .f32) (ix5 b s k h x)
      = if h1 : k.val < 128 then (if 1 ≤ s.val then X (ix5 b ⟨s.val - 1, by omega⟩ ⟨k.val, h1⟩ h x) else 0)
        else X (ix5 b s ⟨k.val - 128, by omega⟩ h x) := by
  pointwise
  by_cases h1 : k.val < 128
  · rw [dif_pos h1, dif_pos h1]
    by_cases h2 : 1 ≤ s.val
    · rw [if_pos h2, dif_pos ⟨⟨h2, by omega⟩, h1⟩]
    · rw [if_neg h2, dif_neg fun e => h2 e.1.1, zero_eq]
  · rw [dif_neg h1, dif_neg h1]

theorem tops_apply (X : S4x16x4x8x128.Idx → Ideal .f32) (Y : S1x1x4x8x1x1.Idx → Ideal .f32) (b : Fin 4) (s : Fin 16) (h : Fin 4) (g : Fin 8) (q : Fin 128) :
    maximumf (broadcastInDim S4x16x4x8x128x1 ![0, 1, 2, 3, 4] bcast_S4x16x4x8x128_S4x16x4x8x128x1_0_1_2_3_4 X) (broadcastInDim S4x16x4x8x128x1 ![0, 1, 2, 3, 4, 5] bcast_S1x1x4x8x1x1_S4x16x4x8x128x1_0_1_2_3_4_5 Y) (ix6 b s h g q 0)
      = max (X (ix5 b s h g q)) (Y (ix6 0 0 h g 0 0)) := by
  pointwise

theorem reds : S4x16x4x8x128x256.Reduces [5] S4x16x4x8x128 := by decide

theorem lifts (b : Fin 4) (s : Fin 16) (h : Fin 4) (g : Fin 8) (q : Fin 128) (k : Fin 256) :
    reds.lift (ix5 b s h g q) k = ix6 b s h g q k := by
  funext a
  fin_cases a <;> rfl

theorem lowest : Ideal.ofBits FTy.f32 4286578688#32 = ⊥ := by
  simp [Ideal.ofBits, Ideal.ieee, -EReal.coe_mul]

theorem eighth : Ideal.ofBits FTy.f32 1040187392#32 = ((0.125 : ℝ) : EReal) := by
  simp [Ideal.ofBits, Ideal.ieee, -EReal.coe_mul]; norm_num

theorem blocks {s : Fin 16} {k : Fin 256} (f : ℕ → EReal) :
    (if k.val < 128 then (if 1 ≤ s.val then f ((s.val - 1) * 128 + k.val) else 0) else f (s.val * 128 + (k.val - 128)))
      = if 128 ≤ s.val * 128 + k.val then f (s.val * 128 + k.val - 128) else 0 := by
  by_cases h1 : k.val < 128
  · by_cases h2 : 1 ≤ s.val
    · rw [if_pos h1, if_pos h2, if_pos (by omega), show (s.val - 1) * 128 + k.val = s.val * 128 + k.val - 128 by omega]
    · rw [if_pos h1, if_neg h2, if_neg (by omega)]
  · rw [if_neg h1, if_pos (by omega), show s.val * 128 + (k.val - 128) = s.val * 128 + k.val - 128 by omega]

theorem greatest (X : S4x16x4x8x128x256.Idx → Ideal .f32) (b : Fin 4) (s : Fin 16) (h : Fin 4) (g : Fin 8) (q : Fin 128) :
    Host.reduce FloatOps.maximumf X (constant S_ .f32 0xFF800000#32) reducesTo_S4x16x4x8x128x256_S4x16x4x8x128_d5 h_S_ (ix5 b s h g q)
      = Finset.univ.fold max ⊥ fun k : Fin 256 => X (ix6 b s h g q k) := by
  rw [hostReduce_maximumf_eq_multiReduction _ 4286578688#32 _ _ reds (.inl rfl) rfl]
  refine (Ideal.multiReduction_maximumf_single X 4286578688#32 reds (.inl rfl) rfl _).trans ?_
  rw [show FloatOps.ofBits (F := Ideal) FTy.f32 4286578688#32 = ⊥ from lowest]
  exact congrArg (Finset.fold max ⊥ · Finset.univ) (funext fun k => congrArg X (lifts b s h g q k))

theorem total (X : S4x16x4x8x128x256.Idx → Ideal .f32) (b : Fin 4) (s : Fin 16) (h : Fin 4) (g : Fin 8) (q : Fin 128) :
    Ideal.hostReduceAdd reducesTo_S4x16x4x8x128x256_S4x16x4x8x128_d5 X 0 (ix5 b s h g q) = ∑ k : Fin 256, X (ix6 b s h g q k) := by
  rw [Ideal.hostReduceAdd_single _ reds, zero_add]
  exact Finset.sum_congr (M := EReal) rfl fun k _ => congrArg X (lifts b s h g q k)

/-- The values mixed by weights `E` with the greatest scores `T` and the sinks `Y`. -/
theorem mixes (K : S4x16x256x4x64.Idx → Ideal .f32) (E : S4x16x4x8x128x256.Idx → Ideal .f32) (T : S4x16x4x8x128x1.Idx → Ideal .f32)
    (Y : S1x1x4x8x1x1.Idx → Ideal .f32) (b : Fin 4) (s : Fin 2048) (c : Fin 2048) :
    (shapeCast S4x2048x2048 (transpose S4x16x128x4x8x64 [0, 1, 5, 2, 4, 3] (Host.dotGeneral (F := Ideal) (φ₁ := .f32) (φ₂ := .f32) dot_S4x16x256x4x64_S4x16x4x8x128x256_S4x16x4x64x8x128_2_5_4_34_013_012 none K (Host.divf E (broadcastInDim S4x16x4x8x128x256 ![0, 1, 2, 3, 4, 5] bcast_S4x16x4x8x128x1_S4x16x4x8x128x256_0_1_2_3_4_5 (addf (broadcastInDim S4x16x4x8x128x1 ![0, 1, 2, 3, 4] bcast_S4x16x4x8x128_S4x16x4x8x128x1_0_1_2_3_4 (Host.reduceAdd E (constant S_ .f32 0x00000000#32) reducesTo_S4x16x4x8x128x256_S4x16x4x8x128_d5 h_S_)) (Host.exp (subf (broadcastInDim S4x16x4x8x128x1 ![0, 1, 2, 3, 4, 5] bcast_S1x1x4x8x1x1_S4x16x4x8x128x1_0_1_2_3_4_5 Y) T)))))) transposes_S4x16x4x64x8x128_S4x16x128x4x8x64_0_1_5_2_4_3) shapeCasts_S4x16x128x4x8x64_S4x2048x2048) (ix3 b s c)
      = ∑ x : Fin 256, K (ix5 b ⟨s.val / 128, by omega⟩ x ⟨c.val / 512, by omega⟩ ⟨c.val % 64, by omega⟩)
          * Ideal.div (E (ix6 b ⟨s.val / 128, by omega⟩ ⟨c.val / 512, by omega⟩ ⟨c.val / 64 % 8, by omega⟩ ⟨s.val % 128, by omega⟩ x))
            (∑ k : Fin 256, E (ix6 b ⟨s.val / 128, by omega⟩ ⟨c.val / 512, by omega⟩ ⟨c.val / 64 % 8, by omega⟩ ⟨s.val % 128, by omega⟩ k)
              + Ideal.exp (Y (ix6 0 0 ⟨c.val / 512, by omega⟩ ⟨c.val / 64 % 8, by omega⟩ 0 0)
                  - T (ix6 b ⟨s.val / 128, by omega⟩ ⟨c.val / 512, by omega⟩ ⟨c.val / 64 % 8, by omega⟩ ⟨s.val % 128, by omega⟩ 0))) := by
  pointwise
  simp only [total]

variable {L : Layer} {V0 : Valuation τ sig (Elt Ideal)} (H : Reads L V0)
include H

theorem key (b : Fin 4) (s : Fin 16) (k : Fin 128) (h : Fin 4) (x : Fin 64) :
    res_main_v39 V0 (ix5 b s k h x) = L.row b.val (s.val * 128 + k.val) (6144 + (h.val * 64 + x.val)) := by
  pointwise [res_main_v39]
  exact row H _ _ _

theorem val (b : Fin 4) (s : Fin 16) (k : Fin 128) (h : Fin 4) (x : Fin 64) :
    res_main_v43 V0 (ix5 b s k h x) = L.row b.val (s.val * 128 + k.val) (6400 + (h.val * 64 + x.val)) := by
  pointwise [res_main_v43]
  exact row H _ _ _

theorem keys (b : Fin 4) (s : Fin 16) (k : Fin 256) (h : Fin 4) (x : Fin 64) :
    (concatenate S4x16x256x4x64 2 [⟨S4x16x128x4x64, (extractStridedSlice S4x16x128x4x64 ![0, 0, 0, 0, 0] (pad S4x17x128x4x64 ![0, 1, 0, 0, 0] ![0, 0, 0, 0, 0] ![0, 0, 0, 0, 0] (res_main_v39 V0) (sitofp .f32 (constantI S_ 32 0#32)) pads_S4x16x128x4x64_S4x17x128x4x64_000_100_000_000_000 h_S_) slices_S4x17x128x4x64_S4x16x128x4x64_0_0_0_0_0)⟩, ⟨S4x16x128x4x64, (res_main_v39 V0)⟩] concatenates_S4x16x128x4x64_S4x16x128x4x64_S4x16x256x4x64_d2 : S4x16x256x4x64.Idx → Ideal .f32) (ix5 b s k h x)
      = if 128 ≤ s.val * 128 + k.val then L.row b.val (s.val * 128 + k.val - 128) (6144 + (h.val * 64 + x.val)) else 0 := by
  rw [both]
  simp only [key H]
  exact blocks fun j => L.row b.val j (6144 + (h.val * 64 + x.val))

theorem vals (b : Fin 4) (s : Fin 16) (k : Fin 256) (h : Fin 4) (x : Fin 64) :
    (concatenate S4x16x256x4x64 2 [⟨S4x16x128x4x64, (extractStridedSlice S4x16x128x4x64 ![0, 0, 0, 0, 0] (pad S4x17x128x4x64 ![0, 1, 0, 0, 0] ![0, 0, 0, 0, 0] ![0, 0, 0, 0, 0] (res_main_v43 V0) (sitofp .f32 (constantI S_ 32 0#32)) pads_S4x16x128x4x64_S4x17x128x4x64_000_100_000_000_000 h_S_) slices_S4x17x128x4x64_S4x16x128x4x64_0_0_0_0_0)⟩, ⟨S4x16x128x4x64, (res_main_v43 V0)⟩] concatenates_S4x16x128x4x64_S4x16x128x4x64_S4x16x256x4x64_d2 : S4x16x256x4x64.Idx → Ideal .f32) (ix5 b s k h x)
      = if 128 ≤ s.val * 128 + k.val then L.row b.val (s.val * 128 + k.val - 128) (6400 + (h.val * 64 + x.val)) else 0 := by
  rw [both]
  simp only [val H]
  exact blocks fun j => L.row b.val j (6400 + (h.val * 64 + x.val))

theorem scores (b : Fin 4) (s : Fin 16) (h : Fin 4) (g : Fin 8) (q : Fin 128) (k : Fin 256) :
    res_main_v80 V0 (ix6 b s h g q k) = L.score b.val (s.val * 128 + q.val) (h.val * 8 + g.val) k.val := by
  unfold res_main_v80
  generalize hK : concatenate S4x16x256x4x64 2 _ _ = K
  pointwise [res_main_v54, res_main_v59]
  rw [masked s.isLt q.isLt k.isLt, Layer.score, Layer.seen, show (s.val * 128 + q.val) % 128 = q.val by omega,
    show (s.val * 128 + q.val) / 128 = s.val by omega]
  refine if_congr Iff.rfl ?_ rfl
  rw [eighth, Cert.Mixer.sum_decay _ _ ⟨0.125, by norm_num, rfl⟩, Layer.dots]
  refine Finset.sum_congr (M := EReal) rfl fun x _ => ?_
  rw [← hK, keys H, row H, mul_assoc, mul_comm]
  simp only [Layer.seen, show (s.val * 128 + q.val) / 128 = s.val by omega, show (h.val * 8 + g.val) / 8 = h.val by omega,
    show 4096 + (h.val * 512 + g.val * 64 + x.val) = 4096 + ((h.val * 8 + g.val) * 64 + x.val) by omega]

theorem sinks (h : Fin 4) (g : Fin 8) : res_main_v82 V0 (ix6 0 0 h g 0 0) = L.sinks (h.val * 8 + g.val) := by
  pointwise [res_main_v82]
  exact H.sinks _

theorem tops (b : Fin 4) (s : Fin 16) (h : Fin 4) (g : Fin 8) (q : Fin 128) :
    res_main_v86 V0 (ix6 b s h g q 0)
      = Cert.Mixer.top (fun j => L.score b.val (s.val * 128 + q.val) (h.val * 8 + g.val) j.val) (L.sinks (h.val * 8 + g.val)) := by
  unfold res_main_v86
  rw [tops_apply, sinks H, greatest]
  simp only [scores H]
  rfl

theorem shares (b : Fin 4) (s : Fin 16) (h : Fin 4) (g : Fin 8) (q : Fin 128) (k : Fin 256) :
    res_main_v89 V0 (ix6 b s h g q k)
      = Ideal.exp (L.score b.val (s.val * 128 + q.val) (h.val * 8 + g.val) k.val
          - Cert.Mixer.top (fun j => L.score b.val (s.val * 128 + q.val) (h.val * 8 + g.val) j.val) (L.sinks (h.val * 8 + g.val))) := by
  pointwise [res_main_v89]
  rw [scores H, tops H]

theorem yb (hL : L.Finite) (b : Fin 4) (s : Fin 2048) (c : Fin 2048) : res_main_v100 V0 (ix3 b s c) = L.yb b.val s.val c.val := by
  have e1 : s.val / 128 * 128 + s.val % 128 = s.val := by omega
  have e2 : c.val / 512 * 8 + c.val / 64 % 8 = c.val / 64 := by omega
  refine (mixes _ (res_main_v89 V0) (res_main_v86 V0) (res_main_v82 V0) b s c).trans ?_
  simp only [shares H, tops H, sinks H, vals H, e1, e2]
  refine Eq.trans ?_ (Cert.Mixer.attend_eq (Cert.Mixer.score_weights hL b.val s.val (c.val / 64) (by omega)) _)
  refine Finset.sum_congr (M := EReal) rfl fun k _ => ?_
  rw [Layer.value, Layer.seen, show c.val / 64 / 8 = c.val / 512 by omega]
  rfl

end Cert.ReferenceIdeal.Mixer
-- ==== Proof.Mixer.RefScan.lean ====
/-
  The reference's scan: the composites over ever longer runs, and back from them to every position.
-/
module

public import proofs.«01_k».proof.Proof.Mixer.RefParts

@[expose] public section

set_option maxRecDepth 16384

noncomputable section

namespace Cert.ReferenceIdeal.Mixer

open Idealize.ShloMosaic Cert.ReferenceIdeal Cert.ReferenceIdeal.Gen Cert.ReferenceIdeal.Value
open Idealize.ShloMosaic.StableHlo Idealize.ShloMosaic.TcCoe
open Cert.Mixer (Layer prodTo sumTo)

/-- The shape of one level of the scan. -/
abbrev Sz (n : ℕ) : Shape := ⟨3, ![4, n, 1024]⟩

/-- Two arrays interleaved. -/
theorem interleave {n m : ℕ} (X Y : (Sz n).Idx → Ideal .f32)
    (hX : (Sz n).Pads ![0, 0, 0] ![0, 1, 0] ![0, 1, 0] (Sz m)) (hY : (Sz n).Pads ![0, 1, 0] ![0, 0, 0] ![0, 1, 0] (Sz m))
    (hm : m = 2 * n) (b : Fin 4) (s : Fin m) (c : Fin 1024) :
    addf (pad (Sz m) ![0, 0, 0] ![0, 1, 0] ![0, 1, 0] X (constant S_ .f32 0x00000000#32) hX h_S_)
        (pad (Sz m) ![0, 1, 0] ![0, 0, 0] ![0, 1, 0] Y (constant S_ .f32 0x00000000#32) hY h_S_) (ix3 b s c)
      = if s.val % 2 = 0 then X (ix3 b ⟨s.val / 2, by omega⟩ c) else Y (ix3 b ⟨s.val / 2, by omega⟩ c) := by
  pointwise
  by_cases h0 : s.val % 2 = 0
  · rw [if_pos h0, dif_pos ⟨h0, by omega⟩, dif_neg (by omega), add_zero]
    exact congrArg X (funext fun a => Fin.ext (by fin_cases a <;> simp [Shape.Idx.norm]))
  · rw [if_neg h0, dif_neg (fun e => h0 e.1), dif_pos ⟨by omega, by omega, by omega⟩, zero_add]
    exact congrArg Y (funext fun a => Fin.ext (by fin_cases a <;> simp [Shape.Idx.norm] <;> omega))

/-- The even entries of a level, from the level above them. -/
theorem merge {n n' m : ℕ} (U A : (Sz m).Idx → Ideal .f32) (X : (Sz n).Idx → Ideal .f32)
    (h1 : (Sz m).Slices ![0, 0, 0] (Sz 1)) (h2 : (Sz n).Slices ![0, 0, 0] (Sz n')) (h3 : (Sz m).SlicesBy ![0, 2, 0] ![1, 2, 1] (Sz n'))
    (h4 : Shape.Concatenates [Sz 1, Sz n'] (Sz n) 1) (hn : n = n' + 1) (hm : m = 2 * n) (b : Fin 4) (s : Fin n) (c : Fin 1024) :
    (concatenate (Sz n) 1 [⟨Sz 1, (extractStridedSlice (Sz 1) ![0, 0, 0] U h1)⟩, ⟨Sz n', (addf (mulf (Host.slice (Sz n') ![0, 2, 0] ![1, 2, 1] A h3) (extractStridedSlice (Sz n') ![0, 0, 0] X h2)) (Host.slice (Sz n') ![0, 2, 0] ![1, 2, 1] U h3))⟩] h4 : (Sz n).Idx → Ideal .f32) (ix3 b s c)
      = if s.val = 0 then U (ix3 b ⟨2 * s.val, by omega⟩ c)
        else A (ix3 b ⟨2 * s.val, by omega⟩ c) * X (ix3 b ⟨s.val - 1, by omega⟩ c) + U (ix3 b ⟨2 * s.val, by omega⟩ c) := by
  pointwise
  by_cases h0 : s.val = 0
  · rw [if_pos h0, dif_pos (by omega)]
    exact congrArg U (funext fun a => Fin.ext (by fin_cases a <;> simp [Shape.Idx.norm]; omega))
  · rw [if_neg h0, dif_neg (by omega)]
    refine congrArg₂ _ (congrArg₂ _ (congrArg A ?_) (congrArg X ?_)) (congrArg U ?_)
    all_goals exact funext fun a => Fin.ext (by fin_cases a <;> simp [Shape.Idx.norm] <;> omega)

variable (a u : ℕ → ℕ → ℕ → EReal)

/-- A level holds the composites of the runs of `k` positions. -/
def Level (n k : ℕ) (A U : (Sz n).Idx → Ideal .f32) : Prop :=
  ∀ (b : Fin 4) (s : Fin n) (c : Fin 1024),
    A (ix3 b s c) = prodTo (a b.val c.val) k (k * (s.val + 1) - 1) ∧ U (ix3 b s c) = sumTo (a b.val c.val) (u b.val c.val) k (k * (s.val + 1) - 1)

/-- The states at the ends of the runs. -/
def Ends (n k : ℕ) (X : (Sz n).Idx → Ideal .f32) : Prop :=
  ∀ (b : Fin 4) (s : Fin n) (c : Fin 1024), X (ix3 b s c) = sumTo (a b.val c.val) (u b.val c.val) (k * (s.val + 1)) (k * (s.val + 1) - 1)

variable {a u}

/-- One level down: runs twice as long. -/
theorem Level.down (ha : ∀ b c i, Cert.Mixer.Decay (a b c i)) {m n k : ℕ} {A U : (Sz m).Idx → Ideal .f32} (H : Level a u m k A U)
    (hm : m = 2 * n) (hk : 0 < k) (h0 : (Sz m).SlicesBy ![0, 0, 0] ![1, 2, 1] (Sz n)) (h1 : (Sz m).SlicesBy ![0, 1, 0] ![1, 2, 1] (Sz n)) :
    Level a u n (2 * k) (mulf (Host.slice (Sz n) ![0, 0, 0] ![1, 2, 1] A h0) (Host.slice (Sz n) ![0, 1, 0] ![1, 2, 1] A h1))
      (addf (mulf (Host.slice (Sz n) ![0, 1, 0] ![1, 2, 1] A h1) (Host.slice (Sz n) ![0, 0, 0] ![1, 2, 1] U h0))
        (Host.slice (Sz n) ![0, 1, 0] ![1, 2, 1] U h1)) := by
  intro b s c
  have e0 (X : (Sz m).Idx → Ideal .f32) : Host.slice (Sz n) ![0, 0, 0] ![1, 2, 1] X h0 (ix3 b s c) = X (ix3 b ⟨2 * s.val, by omega⟩ c) := by
    pointwise
    exact congrArg X (funext fun a => Fin.ext (by fin_cases a <;> simp [Shape.Idx.norm]))
  have e1 (X : (Sz m).Idx → Ideal .f32) : Host.slice (Sz n) ![0, 1, 0] ![1, 2, 1] X h1 (ix3 b s c) = X (ix3 b ⟨2 * s.val + 1, by omega⟩ c) := by
    pointwise
    exact congrArg X (funext fun a => Fin.ext (by fin_cases a <;> simp [Shape.Idx.norm]; omega))
  have i1 : k * (2 * s.val + 1 + 1) - 1 = 2 * k * (s.val + 1) - 1 := by congr 1; ring
  have i0 : k * (2 * s.val + 1) - 1 = 2 * k * (s.val + 1) - 1 - k := by
    have : 2 * k * (s.val + 1) = k * (2 * s.val + 1) + k := by ring
    omega
  constructor
  · show Host.slice (Sz n) ![0, 0, 0] ![1, 2, 1] A h0 (ix3 b s c) * Host.slice (Sz n) ![0, 1, 0] ![1, 2, 1] A h1 (ix3 b s c) = _
    rw [e0, e1, (H _ _ _).1, (H _ _ _).1]
    simp only [i1, i0]
    rw [mul_comm, ← Cert.Mixer.prodTo_add, ← two_mul]
  · show Host.slice (Sz n) ![0, 1, 0] ![1, 2, 1] A h1 (ix3 b s c) * Host.slice (Sz n) ![0, 0, 0] ![1, 2, 1] U h0 (ix3 b s c)
      + Host.slice (Sz n) ![0, 1, 0] ![1, 2, 1] U h1 (ix3 b s c) = _
    rw [e0, e1, e1, (H _ _ _).1, (H _ _ _).2, (H _ _ _).2]
    simp only [i1, i0]
    rw [add_comm, ← Cert.Mixer.sumTo_add (ha _ _), ← two_mul]

/-- One level up: the states at the ends of runs half as long. -/
theorem Ends.up (ha : ∀ b c i, Cert.Mixer.Decay (a b c i)) {m n n' k : ℕ} {A U : (Sz m).Idx → Ideal .f32} (H : Level a u m k A U)
    {X : (Sz n).Idx → Ideal .f32} (HX : Ends a u n (2 * k) X) (hn : n = n' + 1) (hm : m = 2 * n) (hk : 0 < k)
    (h1 : (Sz m).Slices ![0, 0, 0] (Sz 1)) (h2 : (Sz n).Slices ![0, 0, 0] (Sz n')) (h3 : (Sz m).SlicesBy ![0, 2, 0] ![1, 2, 1] (Sz n'))
    (h4 : Shape.Concatenates [Sz 1, Sz n'] (Sz n) 1)
    (hX : (Sz n).Pads ![0, 0, 0] ![0, 1, 0] ![0, 1, 0] (Sz m)) (hY : (Sz n).Pads ![0, 1, 0] ![0, 0, 0] ![0, 1, 0] (Sz m)) :
    Ends a u m k (addf (pad (Sz m) ![0, 0, 0] ![0, 1, 0] ![0, 1, 0] (concatenate (Sz n) 1 [⟨Sz 1, (extractStridedSlice (Sz 1) ![0, 0, 0] U h1)⟩, ⟨Sz n', (addf (mulf (Host.slice (Sz n') ![0, 2, 0] ![1, 2, 1] A h3) (extractStridedSlice (Sz n') ![0, 0, 0] X h2)) (Host.slice (Sz n') ![0, 2, 0] ![1, 2, 1] U h3))⟩] h4) (constant S_ .f32 0x00000000#32) hX h_S_)
        (pad (Sz m) ![0, 1, 0] ![0, 0, 0] ![0, 1, 0] X (constant S_ .f32 0x00000000#32) hY h_S_)) := by
  intro b s c
  rw [interleave _ _ hX hY hm]
  by_cases h0 : s.val % 2 = 0
  · rw [if_pos h0, merge U A X h1 h2 h3 h4 hn hm]
    have e : 2 * (s.val / 2) = s.val := by omega
    by_cases hs : s.val / 2 = 0
    · rw [if_pos hs, (H _ _ _).2]
      simp only [e]
      rw [show s.val = 0 by omega, Nat.zero_add, mul_one]
    · rw [if_neg hs, (H _ _ _).1, (H _ _ _).2, HX]
      simp only [e]
      have i0 : 2 * k * (s.val / 2 - 1 + 1) = k * s.val := by
        rw [show s.val / 2 - 1 + 1 = s.val / 2 by omega, mul_comm 2 k, mul_assoc, e]
      have i1 : k * (s.val + 1) = k + k * s.val := by ring
      rw [i0, i1, add_comm, Cert.Mixer.sumTo_add (ha _ _) k, show k + k * s.val - 1 - k = k * s.val - 1 by omega]
  · rw [if_neg h0, HX]
    have i0 : 2 * k * (s.val / 2 + 1) = k * (s.val + 1) := by
      rw [mul_comm 2 k, mul_assoc, show 2 * (s.val / 2 + 1) = s.val + 1 by omega]
    simp only [i0]

variable {L : Layer} {V0 : Valuation τ sig (Elt Ideal)} (H : Reads L V0)

/-- The decays and the inputs, by sequence and channel. -/
abbrev decays (L : Layer) (b c i : ℕ) : EReal := L.a b i c
abbrev inputs (L : Layer) (b c i : ℕ) : EReal := L.u b i c

theorem decays_decay (b c i : ℕ) : Cert.Mixer.Decay (decays L b c i) :=
  Cert.Mixer.exp_decay (Cert.Mixer.logDecay_nonpos _ _)

include H

theorem level0 : Level (decays L) (inputs L) 2048 1 (res_main_v166 V0) (res_main_v173 V0) := by
  intro b s c
  rw [one_mul, Nat.add_sub_cancel, Cert.Mixer.prodTo_one, Cert.Mixer.sumTo_one, u H]
  refine ⟨?_, rfl⟩
  pointwise [res_main_v166]
  rw [la H]
  rfl

theorem hid (b : Fin 4) (s : Fin 2048) (c : Fin 1024) : res_main_v437 V0 (ix3 b s c) = L.hid b.val s.val c.val := by
  have l0 := level0 H
  have l1 : Level (decays L) (inputs L) 1024 _ (res_main_v178 V0) (res_main_v180 V0) := l0.down decays_decay rfl (by decide) _ _
  have l2 : Level (decays L) (inputs L) 512 _ (res_main_v185 V0) (res_main_v187 V0) := l1.down decays_decay rfl (by decide) _ _
  have l3 : Level (decays L) (inputs L) 256 _ (res_main_v192 V0) (res_main_v194 V0) := l2.down decays_decay rfl (by decide) _ _
  have l4 : Level (decays L) (inputs L) 128 _ (res_main_v199 V0) (res_main_v201 V0) := l3.down decays_decay rfl (by decide) _ _
  have l5 : Level (decays L) (inputs L) 64 _ (res_main_v206 V0) (res_main_v208 V0) := l4.down decays_decay rfl (by decide) _ _
  have l6 : Level (decays L) (inputs L) 32 _ (res_main_v213 V0) (res_main_v215 V0) := l5.down decays_decay rfl (by decide) _ _
  have l7 : Level (decays L) (inputs L) 16 _ (res_main_v220 V0) (res_main_v222 V0) := l6.down decays_decay rfl (by decide) _ _
  have l8 : Level (decays L) (inputs L) 8 _ (res_main_v227 V0) (res_main_v229 V0) := l7.down decays_decay rfl (by decide) _ _
  have l9 : Level (decays L) (inputs L) 4 _ (res_main_v234 V0) (res_main_v236 V0) := l8.down decays_decay rfl (by decide) _ _
  have l10 : Level (decays L) (inputs L) 2 _ (res_main_v241 V0) (res_main_v243 V0) := l9.down decays_decay rfl (by decide) _ _
  have l11 : Level (decays L) (inputs L) 1 _ (res_main_v248 V0) (res_main_v250 V0) := l10.down decays_decay rfl (by decide) _ _
  have r11 : Ends (decays L) (inputs L) 1 _ (res_main_v250 V0) := fun b s c => by
    have := (l11 b s c).2
    rw [show s.val = 0 by omega, Nat.zero_add, mul_one] at this ⊢
    exact this
  have r10 : Ends (decays L) (inputs L) 2 _ (res_main_v267 V0) := r11.up decays_decay l10 rfl rfl (by decide) _ _ _ _ _ _
  have r9 : Ends (decays L) (inputs L) 4 _ (res_main_v284 V0) := r10.up decays_decay l9 rfl rfl (by decide) _ _ _ _ _ _
  have r8 : Ends (decays L) (inputs L) 8 _ (res_main_v301 V0) := r9.up decays_decay l8 rfl rfl (by decide) _ _ _ _ _ _
  have r7 : Ends (decays L) (inputs L) 16 _ (res_main_v318 V0) := r8.up decays_decay l7 rfl rfl (by decide) _ _ _ _ _ _
  have r6 : Ends (decays L) (inputs L) 32 _ (res_main_v335 V0) := r7.up decays_decay l6 rfl rfl (by decide) _ _ _ _ _ _
  have r5 : Ends (decays L) (inputs L) 64 _ (res_main_v352 V0) := r6.up decays_decay l5 rfl rfl (by decide) _ _ _ _ _ _
  have r4 : Ends (decays L) (inputs L) 128 _ (res_main_v369 V0) := r5.up decays_decay l4 rfl rfl (by decide) _ _ _ _ _ _
  have r3 : Ends (decays L) (inputs L) 256 _ (res_main_v386 V0) := r4.up decays_decay l3 rfl rfl (by decide) _ _ _ _ _ _
  have r2 : Ends (decays L) (inputs L) 512 _ (res_main_v403 V0) := r3.up decays_decay l2 rfl rfl (by decide) _ _ _ _ _ _
  have r1 : Ends (decays L) (inputs L) 1024 _ (res_main_v420 V0) := r2.up decays_decay l1 rfl rfl (by decide) _ _ _ _ _ _
  have r0 : Ends (decays L) (inputs L) 2048 _ (res_main_v437 V0) := r1.up decays_decay l0 rfl rfl (by decide) _ _ _ _ _ _
  have := r0 b s c
  rw [one_mul] at this
  exact this

end Cert.ReferenceIdeal.Mixer
-- ==== Proof.Mixer.RefOut.lean ====
/-
  The reference's result, entry by entry.
-/
module

public import proofs.«01_k».proof.Proof.Mixer.RefAttend
public import proofs.«01_k».proof.Proof.Mixer.RefScan

@[expose] public section

set_option maxRecDepth 16384

noncomputable section

namespace Cert.ReferenceIdeal.Mixer

open Idealize.ShloMosaic Cert.ReferenceIdeal Cert.ReferenceIdeal.Gen Cert.ReferenceIdeal.Value
open Idealize.ShloMosaic.StableHlo Idealize.ShloMosaic.TcCoe
open Idealize.SL.Sem
open Cert.Mixer (Layer)

/-- A part normed and gated, on rows of 1024 -/
def normed1024 (Y G : S4x2048x1024.Idx → Ideal .f32) (n : S1024.Idx → Ideal .f32) : S4x2048x1024.Idx → Ideal .f32 :=
  mulf (mulf (mulf Y (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf Y Y) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 n))) (mulf G (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf G)))))

/-- and on rows of 2048. -/
def normed2048 (Y G : S4x2048x2048.Idx → Ideal .f32) (n : S2048.Idx → Ideal .f32) : S4x2048x2048.Idx → Ideal .f32 :=
  mulf (mulf (mulf Y (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf Y Y) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 n))) (mulf G (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf G)))))

/-- Three parts side by side, as rows. -/
def joined (X : S4x2048x1024.Idx → Ideal .f32) (Y : S4x2048x2048.Idx → Ideal .f32) (Z : S4x2048x1024.Idx → Ideal .f32) : S8192x4096.Idx → Ideal .bf16 :=
  truncf .bf16 (shapeCast S8192x4096 (concatenate S4x2048x4096 2 [⟨S4x2048x1024, X⟩, ⟨S4x2048x2048, Y⟩, ⟨S4x2048x1024, Z⟩] concatenates_S4x2048x1024_S4x2048x2048_S4x2048x1024_S4x2048x4096_d2) shapeCasts_S4x2048x4096_S8192x4096) bitsLt_bf16_f32

/-- The reference's result as a function of its arguments. -/
def result (V0 : Valuation τ sig (Elt Ideal)) : S8192x4096.Idx → Ideal .bf16 :=
  joined (normed1024 (res_main_v34 V0) (res_main_v5 V0) (V0 (Proc.devRef .tc main_arg9)))
    (normed2048 (res_main_v100 V0) (res_main_v9 V0) (V0 (Proc.devRef .tc main_arg10)))
    (normed1024 (res_main_v437 V0) (res_main_v11 V0) (V0 (Proc.devRef .tc main_arg11)))

theorem normed1024_apply (Y G : S4x2048x1024.Idx → Ideal .f32) (n : S1024.Idx → Ideal .f32) (b : Fin 4) (s : Fin 2048) (c : Fin 1024) :
    normed1024 Y G n (ix3 b s c)
      = Cert.Mixer.rmsGate (Ideal.ofBits FTy.f32 1149239296#32) (fun j : Fin 1024 => Y (ix3 b s j)) (Y (ix3 b s c)) (n (ix1 c)) (G (ix3 b s c)) := by
  pointwise [normed1024]
  rfl

theorem normed2048_apply (Y G : S4x2048x2048.Idx → Ideal .f32) (n : S2048.Idx → Ideal .f32) (b : Fin 4) (s : Fin 2048) (c : Fin 2048) :
    normed2048 Y G n (ix3 b s c)
      = Cert.Mixer.rmsGate (Ideal.ofBits FTy.f32 1157627904#32) (fun j : Fin 2048 => Y (ix3 b s j)) (Y (ix3 b s c)) (n (ix1 c)) (G (ix3 b s c)) := by
  pointwise [normed2048]
  rfl

theorem joined_apply (X : S4x2048x1024.Idx → Ideal .f32) (Y : S4x2048x2048.Idx → Ideal .f32) (Z : S4x2048x1024.Idx → Ideal .f32)
    (i : Fin 8192) (j : Fin 4096) :
    joined X Y Z (ix2 i j) = if h : j.val < 1024 then X (ix3 ⟨i.val / 2048, by omega⟩ ⟨i.val % 2048, by omega⟩ ⟨j.val, h⟩)
      else if h2 : j.val < 3072 then Y (ix3 ⟨i.val / 2048, by omega⟩ ⟨i.val % 2048, by omega⟩ ⟨j.val - 1024, by omega⟩)
      else Z (ix3 ⟨i.val / 2048, by omega⟩ ⟨i.val % 2048, by omega⟩ ⟨j.val - 3072, by omega⟩) := by
  pointwise [joined]
  by_cases h : j.val < 1024
  · rw [dif_pos h, dif_pos h]
  · rw [dif_neg h, dif_neg h]
    by_cases h2 : j.val < 3072
    · rw [dif_pos h2, dif_pos (by omega)]
    · rw [dif_neg h2, dif_neg (by omega)]
      simp only [Nat.sub_sub]

variable {L : Layer} {V0 : Valuation τ sig (Elt Ideal)} (H : Reads L V0)
include H

theorem out (hL : L.Finite) (i : Fin 8192) (j : Fin 4096) : result V0 (ix2 i j) = L.out (i.val / 2048) (i.val % 2048) j.val := by
  rw [result, joined_apply]
  simp only [normed1024_apply, normed2048_apply, ya H, yb H hL, hid H, H.na, H.nb, H.nc, Layer.out, dite_eq_ite]
  have g1 : ∀ b s c, res_main_v5 V0 (ix3 b s c) = L.row b.val s.val (3072 + c.val) := fun b s c => by
    pointwise [res_main_v5]
    exact row H _ _ _
  have g2 : ∀ b s c, res_main_v9 V0 (ix3 b s c) = L.row b.val s.val (6656 + c.val) := fun b s c => by
    pointwise [res_main_v9]
    exact row H _ _ _
  have g3 : ∀ b s c, res_main_v11 V0 (ix3 b s c) = L.row b.val s.val (9728 + c.val) := fun b s c => by
    pointwise [res_main_v11]
    exact row H _ _ _
  simp only [g1, g2, g3, dite_eq_ite]

omit H in
/-- What the run leaves is this. -/
theorem ran (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v485) = result (launchContents m c) :=
  (θ_run defs _ _).mono (fun _ h c => (h c).1) (run m ρ)

end Cert.ReferenceIdeal.Mixer
-- ==== Proof.Mixer.KernelScan.lean ====
module

public import proofs.«01_k».proof.Proof.Gen.KernelIdeal.Skeleton
public import proofs.«01_k».proof.Proof.Mixer.Spec
public import Idealize.ShloMosaic.Lib.WordCmp
public import Idealize.ShloMosaic.Lib.Tactic.CleanTypes
@[expose] public section

/-! # One block of the mixer's kernel: the convolutions, the gates and the recurrence -/

set_option maxRecDepth 16384

noncomputable section

namespace Cert.KernelIdeal.Mixer

open Idealize.ShloMosaic Cert.KernelIdeal Cert.KernelIdeal.Gen Idealize.ShloMosaic.TcCoe Cert.Mixer

/-- The matrix `V` has the entries `f`. -/
def Has {m w : ℕ} (f : ℕ → ℕ → EReal) (V : (⟨2, ![m, w]⟩ : Shape).Idx → EReal) : Prop :=
  ∀ (r : Fin m) (c : Fin w), V (ix2 r c) = f r.val c.val

variable (L : Layer) (b n : ℕ)

/-- The block's columns from `o` on. -/
def cols (o : ℕ) : ℕ → ℕ → EReal := fun r c => L.row b (n * 128 + r) (o + c)

/-- A value of each position, over the block. -/
def blk (f : ℕ → ℕ → EReal) : ℕ → ℕ → EReal := fun r c => f (n * 128 + r) c

/-- The same row for all. -/
def line (f : ℕ → EReal) : ℕ → ℕ → EReal := fun _ c => f c

variable {L b n}

theorem pay8_eq {v5 v7 : Vec Ideal S128x1024 .bf16} (h5 : Has (cols L b n 1024) v5) (h7 : Has (cols L b n 2048) v7) :
    Has (blk n (L.pa b)) (k0_pay8 (F := Ideal) v5 v7) := fun r c => by
  refine (show _ = v5 (ix2 r c) * v7 (ix2 r c) by pointwise [k0_pay8, k0_pay7]).trans ?_
  rw [h5, h7]
  rfl

theorem pay10_eq {v3 v5 v7 : Vec Ideal S128x1024 .bf16} {v13 v17 v22 : Vec Ideal S1x1024 .f32} {v14 v18 : Vec Ideal S128x1024 .f32}
    (h3 : Has (cols L b n 0) v3) (h5 : Has (cols L b n 1024) v5) (h7 : Has (cols L b n 2048) v7)
    (h13 : Has (line (L.caw 0)) v13) (h17 : Has (line (L.caw 1)) v17) (h22 : Has (line (L.caw 2)) v22)
    (h14 : Has (blk n fun s => L.paBack b s 2) v14) (h18 : Has (blk n fun s => L.paBack b s 1) v18) :
    Has (blk n (L.ya b)) (k0_pay10 (F := Ideal) v3 v5 v7 v13 v14 v17 v18 v22) := fun r c => by
  refine (show _ = v3 (ix2 r c) * (v13 (ix2 0 c) * v14 (ix2 r c) + v17 (ix2 0 c) * v18 (ix2 r c)
    + v22 (ix2 0 c) * (v5 (ix2 r c) * v7 (ix2 r c))) by pointwise [k0_pay10, k0_pay7]).trans ?_
  rw [h3, h5, h7, h13, h17, h22, h14, h18, cols, Nat.zero_add]
  rfl

theorem pay12_eq {v52 : Vec Ideal S128x1024 .bf16} (h : Has (cols L b n 8704) v52) :
    Has (cols L b n 8704) (k0_pay12 (F := Ideal) v52) := fun r c =>
  (show _ = v52 (ix2 r c) by pointwise [k0_pay12]).trans (h r c)

theorem pay13_eq {v52 : Vec Ideal S128x1024 .bf16} (h : Has (cols L b n 8704) v52) :
    Has (cols L b n 8704) (k0_pay13 (F := Ideal) v52) := fun r c =>
  (show _ = v52 (ix2 r c) by pointwise [k0_pay13, k0_pay12]).trans (h r c)

theorem pay15_eq {v53 : FVec Ideal S128x1024 .f32} {v57 v61 v66 v71 v75 : Vec Ideal S1x1024 .f32} {v58 v62 v67 : Vec Ideal S128x1024 .f32}
    (h53 : Has (cols L b n 8704) v53) (h57 : Has (line (L.ccw 0)) v57) (h61 : Has (line (L.ccw 1)) v61)
    (h66 : Has (line (L.ccw 2)) v66) (h71 : Has (line (L.ccw 3)) v71) (h75 : Has (line L.ccb) v75)
    (h58 : Has (blk n fun s => L.cxBack b s 3) v58) (h62 : Has (blk n fun s => L.cxBack b s 2) v62)
    (h67 : Has (blk n fun s => L.cxBack b s 1) v67) :
    Has (blk n (L.xc b)) (k0_pay15 (F := Ideal) v53 (k0_pay14 v57 v58 v61 v62) v66 v67 v71 v75) := fun r c => by
  refine (show _ = v57 (ix2 0 c) * v58 (ix2 r c) + v61 (ix2 0 c) * v62 (ix2 r c) + v66 (ix2 0 c) * v67 (ix2 r c)
    + v71 (ix2 0 c) * v53 (ix2 r c) + v75 (ix2 0 c) by pointwise [k0_pay15, k0_pay14]).trans ?_
  rw [h53, h57, h61, h66, h71, h75, h58, h62, h67]
  rfl

theorem pay17_eq {v53 v65 : FVec Ideal S128x1024 .f32} {v66 v71 v75 : Vec Ideal S1x1024 .f32} {v67 : Vec Ideal S128x1024 .f32}
    {f : ℕ → ℕ → EReal} (h : Has f (k0_pay15 (F := Ideal) v53 v65 v66 v67 v71 v75)) :
    Has f (k0_pay17 (F := Ideal) v53 v65 v66 v67 v71 v75) := fun r c =>
  (show _ = k0_pay15 (F := Ideal) v53 v65 v66 v67 v71 v75 (ix2 r c) by pointwise [k0_pay17]).trans (h r c)

/-! ## The gates -/

/-- The weights of gate block `g`. -/
def Gate (L : Layer) (g : ℕ) (V : Vec Ideal S1x128x256 .bf16) : Prop := ∀ (x : Fin 128) (j : Fin 256), V (ix3 0 x j) = L.wg g x.val j.val

/-- Both gates of block `g`. -/
def gates (L : Layer) (b n g : ℕ) : ℕ → ℕ → EReal := fun r j =>
  ∑ x : Fin 128, L.xc b (n * 128 + r) (g * 128 + x.val) * L.wg g x.val j

section
variable {v53 v65 : FVec Ideal S128x1024 .f32} {v66 v71 v75 : Vec Ideal S1x1024 .f32} {v67 : Vec Ideal S128x1024 .f32}
  {V : Vec Ideal S1x128x256 .bf16}

theorem pay18_eq (h : Has (blk n (L.xc b)) (k0_pay17 (F := Ideal) v53 v65 v66 v67 v71 v75)) (hV : Gate L 0 V) :
    Has (gates L b n 0) (k0_pay18 (F := Ideal) v53 v65 v66 v67 v71 v75 V) := fun r c => by
  unfold k0_pay18
  generalize k0_pay17 (F := Ideal) v53 v65 v66 v67 v71 v75 = X at h
  refine (show _ = ∑ x : Fin 128, X (ix2 r ⟨x.val, by omega⟩) * V (ix3 0 x c) by pointwise).trans ?_
  refine Finset.sum_congr (M := EReal) rfl fun x _ => ?_
  rw [h, hV, blk, Nat.zero_mul, Nat.zero_add]

theorem pay19_eq (h : Has (blk n (L.xc b)) (k0_pay17 (F := Ideal) v53 v65 v66 v67 v71 v75)) (hV : Gate L 1 V) :
    Has (gates L b n 1) (k0_pay19 (F := Ideal) v53 v65 v66 v67 v71 v75 V) := fun r c => by
  unfold k0_pay19
  generalize k0_pay17 (F := Ideal) v53 v65 v66 v67 v71 v75 = X at h
  refine (show _ = ∑ x : Fin 128, X (ix2 r ⟨128 + x.val, by omega⟩) * V (ix3 0 x c) by pointwise).trans ?_
  refine Finset.sum_congr (M := EReal) rfl fun x _ => ?_
  rw [h, hV]; rfl

theorem pay20_eq (h : Has (blk n (L.xc b)) (k0_pay17 (F := Ideal) v53 v65 v66 v67 v71 v75)) (hV : Gate L 2 V) :
    Has (gates L b n 2) (k0_pay20 (F := Ideal) v53 v65 v66 v67 v71 v75 V) := fun r c => by
  unfold k0_pay20
  generalize k0_pay17 (F := Ideal) v53 v65 v66 v67 v71 v75 = X at h
  refine (show _ = ∑ x : Fin 128, X (ix2 r ⟨256 + x.val, by omega⟩) * V (ix3 0 x c) by pointwise).trans ?_
  refine Finset.sum_congr (M := EReal) rfl fun x _ => ?_
  rw [h, hV]; rfl

theorem pay21_eq (h : Has (blk n (L.xc b)) (k0_pay17 (F := Ideal) v53 v65 v66 v67 v71 v75)) :
    Has (blk n fun s c => L.xc b s (384 + c)) (k0_pay21 (F := Ideal) v53 v65 v66 v67 v71 v75) := fun r c => by
  unfold k0_pay21
  generalize k0_pay17 (F := Ideal) v53 v65 v66 v67 v71 v75 = X at h
  refine (show _ = X (ix2 r ⟨384 + c.val, by omega⟩) by pointwise).trans ?_
  rw [h]; rfl

end

section
variable {v83 : FVec Ideal S128x1024 .bf16} {v96 : FVec Ideal S128x128 .bf16} {V : Vec Ideal S1x128x256 .bf16}

theorem pay23_eq (h : Has (blk n fun s c => L.xc b s (384 + c)) v96) (hV : Gate L 3 V) :
    Has (gates L b n 3) (k0_pay23 (F := Ideal) v96 (k0_pay22 V) (constant S128x256 .f32 0#32)) := fun r c => by
  refine (show _ = ∑ x : Fin 128, v96 (ix2 r x) * V (ix3 0 x c) by pointwise [k0_pay23, k0_pay22]).trans ?_
  refine Finset.sum_congr (M := EReal) rfl fun x _ => ?_
  rw [h, hV]; rfl

theorem pay24_eq (h : Has (blk n (L.xc b)) v83) (hV : Gate L 4 V) : Has (gates L b n 4) (k0_pay24 (F := Ideal) v83 V) := fun r c => by
  refine (show _ = ∑ x : Fin 128, v83 (ix2 r ⟨512 + x.val, by omega⟩) * V (ix3 0 x c) by pointwise [k0_pay24]).trans ?_
  refine Finset.sum_congr (M := EReal) rfl fun x _ => ?_
  rw [h, hV]; rfl

theorem pay25_eq (h : Has (blk n (L.xc b)) v83) (hV : Gate L 5 V) : Has (gates L b n 5) (k0_pay25 (F := Ideal) v83 V) := fun r c => by
  refine (show _ = ∑ x : Fin 128, v83 (ix2 r ⟨640 + x.val, by omega⟩) * V (ix3 0 x c) by pointwise [k0_pay25]).trans ?_
  refine Finset.sum_congr (M := EReal) rfl fun x _ => ?_
  rw [h, hV]; rfl

theorem pay26_eq (h : Has (blk n (L.xc b)) v83) (hV : Gate L 6 V) : Has (gates L b n 6) (k0_pay26 (F := Ideal) v83 V) := fun r c => by
  refine (show _ = ∑ x : Fin 128, v83 (ix2 r ⟨768 + x.val, by omega⟩) * V (ix3 0 x c) by pointwise [k0_pay26]).trans ?_
  refine Finset.sum_congr (M := EReal) rfl fun x _ => ?_
  rw [h, hV]; rfl

theorem pay27_eq (h : Has (blk n (L.xc b)) v83) (hV : Gate L 7 V) : Has (gates L b n 7) (k0_pay27 (F := Ideal) v83 V) := fun r c => by
  refine (show _ = ∑ x : Fin 128, v83 (ix2 r ⟨896 + x.val, by omega⟩) * V (ix3 0 x c) by pointwise [k0_pay27]).trans ?_
  refine Finset.sum_congr (M := EReal) rfl fun x _ => ?_
  rw [h, hV]; rfl

/-- A gate's column out of its block. -/
theorem gates_eq {g c : ℕ} (o r k : ℕ) (h1 : c / 128 = g) (h2 : k = o + c % 128) : gates L b n g r k = L.gate o b (n * 128 + r) c := by
  subst h1 h2
  rfl

variable {v87 v91 v95 : FVec Ideal S128x256 .f32} {v101 v105 v109 v113 V' : Vec Ideal S1x128x256 .bf16} {v125 : Vec Ideal S1x1024 .f32}

/-- The first gate's eight blocks side by side, with the bias. -/
theorem pay28_eq (h83 : Has (blk n (L.xc b)) v83) (h87 : Has (gates L b n 0) v87) (h91 : Has (gates L b n 1) v91)
    (h95 : Has (gates L b n 2) v95) (h96 : Has (blk n fun s c => L.xc b s (384 + c)) v96) (hV : Gate L 3 V)
    (h101 : Gate L 4 v101) (h105 : Gate L 5 v105) (h109 : Gate L 6 v109) (h113 : Gate L 7 v113) (h125 : Has (line L.br) v125) :
    Has (blk n fun s c => L.gate 0 b s c + L.br c)
      (k0_pay28 (F := Ideal) v83 v87 v91 v95 v96 (k0_pay22 V) (constant S128x256 .f32 0#32) v101 v105 v109 v113 v125) := fun r c => by
  have h3 := pay23_eq h96 hV
  have h4 := pay24_eq h83 h101
  have h5 := pay25_eq h83 h105
  have h6 := pay26_eq h83 h109
  have h7 := pay27_eq h83 h113
  unfold k0_pay28
  generalize k0_pay23 v96 (k0_pay22 V) (constant S128x256 .f32 0#32) = G3 at h3
  generalize k0_pay24 v83 v101 = G4 at h4
  generalize k0_pay25 v83 v105 = G5 at h5
  generalize k0_pay26 v83 v109 = G6 at h6
  generalize k0_pay27 v83 v113 = G7 at h7
  pointwise
  simp only [h87 _ _, h91 _ _, h95 _ _, h3 _ _, h4 _ _, h5 _ _, h6 _ _, h7 _ _, h125 _ _, line, blk]
  congr 1
  split_ifs <;> exact gates_eq _ _ _ (by omega) (by omega)

/-- The second gate's. -/
theorem pay29_eq (h83 : Has (blk n (L.xc b)) v83) (h87 : Has (gates L b n 0) v87) (h91 : Has (gates L b n 1) v91)
    (h95 : Has (gates L b n 2) v95) (h96 : Has (blk n fun s c => L.xc b s (384 + c)) v96) (hV : Gate L 3 V)
    (h101 : Gate L 4 v101) (h105 : Gate L 5 v105) (h109 : Gate L 6 v109) (h113 : Gate L 7 v113) :
    Has (blk n (L.gate 128 b))
      (k0_pay29 (F := Ideal) v83 v87 v91 v95 v96 (k0_pay22 V) (constant S128x256 .f32 0#32) v101 v105 v109 v113) := fun r c => by
  have h3 := pay23_eq h96 hV
  have h4 := pay24_eq h83 h101
  have h5 := pay25_eq h83 h105
  have h6 := pay26_eq h83 h109
  have h7 := pay27_eq h83 h113
  unfold k0_pay29
  generalize k0_pay23 v96 (k0_pay22 V) (constant S128x256 .f32 0#32) = G3 at h3
  generalize k0_pay24 v83 v101 = G4 at h4
  generalize k0_pay25 v83 v105 = G5 at h5
  generalize k0_pay26 v83 v109 = G6 at h6
  generalize k0_pay27 v83 v113 = G7 at h7
  pointwise
  simp only [h87 _ _, h91 _ _, h95 _ _, h3 _ _, h4 _ _, h5 _ _, h6 _ _, h7 _ _, blk]
  split_ifs <;> exact gates_eq _ _ _ (by omega) (by omega)

end

/-! ## The recurrence -/

/-- The running products, each with the one `k` rows above. -/
def stepA (k : BitVec 32) (A : FVec Ideal S128x1024 .f32) : FVec Ideal S128x1024 .f32 :=
  mulf A (select (cmpi .sge (iota .tc S128x1024 32 [0] iota_S128x1024_d0_w32) (broadcast S128x1024 k))
    (dynamicRotate 0 k none A rotates_S128x1024_d0) (broadcast S128x1024 (Scalar.ofBits .f32 0x3F800000#32)))

/-- The running sums likewise. -/
def stepU (k : BitVec 32) (A U : FVec Ideal S128x1024 .f32) : FVec Ideal S128x1024 .f32 :=
  addf (mulf A (select (cmpi .sge (iota .tc S128x1024 32 [0] iota_S128x1024_d0_w32) (broadcast S128x1024 k))
    (dynamicRotate 0 k none U rotates_S128x1024_d0) (broadcast S128x1024 (Scalar.ofBits .f32 0x00000000#32)))) U

theorem rotated (k : ℕ) (hk : k = 1 ∨ k = 2 ∨ k = 4 ∨ k = 8 ∨ k = 16 ∨ k = 32 ∨ k = 64) (A : FVec Ideal S128x1024 .f32) (r : Fin 128) (c : Fin 1024) :
    dynamicRotate 0 (BitVec.ofNat 32 k) none A rotates_S128x1024_d0 (ix2 r c) = A (ix2 ⟨(r.val + 128 - k) % 128, Nat.mod_lt _ (by decide)⟩ c) := by
  rcases hk with rfl | rfl | rfl | rfl | rfl | rfl | rfl <;> pointwise

theorem below (k : ℕ) (hk : k < 128) (r : Fin 128) (x y : EReal) :
    Scalar.select (IntOp.cmpi .sge (BitVec.ofNat 32 r.val) (BitVec.ofNat 32 k)) x y = if k ≤ r.val then x else y := by
  rw [WordCmp.cmpi_sge_ofNat (by have := r.isLt; omega) (by omega)]
  by_cases h : k ≤ r.val <;> simp [Scalar.select, h]

/-- After some steps a row holds the products and the sums over its last `k` rows. -/
def Level (a u : ℕ → ℕ → EReal) (k : ℕ) (A U : FVec Ideal S128x1024 .f32) : Prop :=
  Has (fun r c => prodTo (fun j => a j c) (min k (r + 1)) r) A
    ∧ Has (fun r c => sumTo (fun j => a j c) (fun j => u j c) (min k (r + 1)) r) U

theorem Level.step {a u : ℕ → ℕ → EReal} {k : ℕ} (hk : k = 1 ∨ k = 2 ∨ k = 4 ∨ k = 8 ∨ k = 16 ∨ k = 32 ∨ k = 64)
    (ha : ∀ j c, Decay (a j c)) {A U : FVec Ideal S128x1024 .f32} (h : Level a u k A U) :
    Level a u (k + k) (stepA (BitVec.ofNat 32 k) A) (stepU (BitVec.ofNat 32 k) A U) := by
  have hk' : 0 < k ∧ k < 128 := by omega
  have hat (r : Fin 128) (hr : k ≤ r.val) : (r.val + 128 - k) % 128 = r.val - k := by
    have := r.isLt
    rw [show r.val + 128 - k = r.val - k + 128 by omega, Nat.add_mod_right, Nat.mod_eq_of_lt (by omega)]
  refine ⟨fun r c => ?_, fun r c => ?_⟩
  · refine (show _ = A (ix2 r c) * Scalar.select (IntOp.cmpi .sge (BitVec.ofNat 32 r.val) (BitVec.ofNat 32 k))
      (dynamicRotate 0 (BitVec.ofNat 32 k) none A rotates_S128x1024_d0 (ix2 r c)) 1 by
        generalize hX : dynamicRotate 0 (BitVec.ofNat 32 k) none A rotates_S128x1024_d0 = X
        unfold stepA; rw [hX]; pointwise).trans ?_
    rw [rotated k hk, below k hk'.2, h.1]
    split_ifs with hr
    · rw [h.1]
      simp only [hat r hr]
      exact prodTo_double _ _ hr
    · rw [mul_one]
      beta_reduce
      rw [min_eq_right (by omega), min_eq_right (by omega)]
  · refine (show _ = A (ix2 r c) * Scalar.select (IntOp.cmpi .sge (BitVec.ofNat 32 r.val) (BitVec.ofNat 32 k))
      (dynamicRotate 0 (BitVec.ofNat 32 k) none U rotates_S128x1024_d0 (ix2 r c)) 0 + U (ix2 r c) by
        generalize hX : dynamicRotate 0 (BitVec.ofNat 32 k) none U rotates_S128x1024_d0 = X
        unfold stepU; rw [hX]; pointwise).trans ?_
    rw [rotated k hk, below k hk'.2, h.1, h.2]
    split_ifs with hr
    · rw [h.2]
      simp only [hat r hr]
      exact sumTo_double (fun j => ha j c.val) _ _ hr
    · rw [mul_zero, zero_add, h.2]
      beta_reduce
      rw [min_eq_right (by omega), min_eq_right (by omega)]

section
variable {A U : FVec Ideal S128x1024 .f32}

/-- The seven steps. -/
theorem scanned {a u : ℕ → ℕ → EReal} (ha : ∀ j c, Decay (a j c)) (h : Level a u 1 A U) :
    Has (fun r c => state (fun j => a j c) (fun j => u j c) r)
      (k0_pay47 (iota .tc S128x1024 32 [0] iota_S128x1024_d0_w32)
        (k0_pay42 A (iota .tc S128x1024 32 [0] iota_S128x1024_d0_w32) U k0_pay33
          (select k0_pay33 (dynamicRotate 0 1#32 none A rotates_S128x1024_d0) (broadcast S128x1024 (Scalar.ofBits .f32 0x3F800000#32)))
          (dynamicRotate 0 1#32 none U rotates_S128x1024_d0) (Scalar.ofBits .f32 0x00000000#32))
        (k0_pay43 A (iota .tc S128x1024 32 [0] iota_S128x1024_d0_w32)
          (select k0_pay33 (dynamicRotate 0 1#32 none A rotates_S128x1024_d0) (broadcast S128x1024 (Scalar.ofBits .f32 0x3F800000#32))))
        (k0_pay44 (iota .tc S128x1024 32 [0] iota_S128x1024_d0_w32))
        (k0_pay45 A (iota .tc S128x1024 32 [0] iota_S128x1024_d0_w32)
          (select k0_pay33 (dynamicRotate 0 1#32 none A rotates_S128x1024_d0) (broadcast S128x1024 (Scalar.ofBits .f32 0x3F800000#32))))
        k0_pay46) := by
  generalize hs : select k0_pay33 (dynamicRotate 0 1#32 none A rotates_S128x1024_d0) (broadcast S128x1024 (Scalar.ofBits .f32 0x3F800000#32)) = A'
  have h1 := h.step (by simp) ha
  have e1 : stepA (BitVec.ofNat 32 1) A = k0_pay36 A A' := by rw [← hs]; rfl
  have e1' : stepU (BitVec.ofNat 32 1) A U = addf (mulf A (select k0_pay33 (dynamicRotate 0 1#32 none U rotates_S128x1024_d0) (broadcast S128x1024 (Scalar.ofBits .f32 0x00000000#32)))) U := rfl
  rw [e1] at h1
  generalize hU1 : stepU (BitVec.ofNat 32 1) A U = U1 at h1 e1'
  have h2 := h1.step (by simp) ha
  have e2 : stepA (BitVec.ofNat 32 (1 + 1)) (k0_pay36 A A') = k0_pay38 A (iota .tc S128x1024 32 [0] iota_S128x1024_d0_w32) A' := rfl
  rw [e2] at h2
  have h3 := h2.step (by simp) ha
  have e3 : stepA (BitVec.ofNat 32 (1 + 1 + (1 + 1))) (k0_pay38 A (iota .tc S128x1024 32 [0] iota_S128x1024_d0_w32) A')
    = k0_pay40 A (iota .tc S128x1024 32 [0] iota_S128x1024_d0_w32) A' := rfl
  rw [e3] at h3
  have h4 := h3.step (by simp) ha
  have e4 : stepA (BitVec.ofNat 32 (1 + 1 + (1 + 1) + (1 + 1 + (1 + 1)))) (k0_pay40 A (iota .tc S128x1024 32 [0] iota_S128x1024_d0_w32) A')
    = k0_pay43 A (iota .tc S128x1024 32 [0] iota_S128x1024_d0_w32) A' := rfl
  rw [e4] at h4
  have hU : k0_pay42 A (iota .tc S128x1024 32 [0] iota_S128x1024_d0_w32) U k0_pay33 A' (dynamicRotate 0 1#32 none U rotates_S128x1024_d0) (Scalar.ofBits .f32 0x00000000#32)
    = stepU (BitVec.ofNat 32 8) (k0_pay40 A (iota .tc S128x1024 32 [0] iota_S128x1024_d0_w32) A')
      (stepU (BitVec.ofNat 32 4) (k0_pay38 A (iota .tc S128x1024 32 [0] iota_S128x1024_d0_w32) A')
        (stepU (BitVec.ofNat 32 2) (k0_pay36 A A') U1)) := by rw [e1']; rfl
  rw [hU]
  unfold k0_pay45
  replace h4 : Level a u 16 (k0_pay43 A (iota .tc S128x1024 32 [0] iota_S128x1024_d0_w32) A') (stepU (BitVec.ofNat 32 8) (k0_pay40 A (iota .tc S128x1024 32 [0] iota_S128x1024_d0_w32) A')
      (stepU (BitVec.ofNat 32 4) (k0_pay38 A (iota .tc S128x1024 32 [0] iota_S128x1024_d0_w32) A')
        (stepU (BitVec.ofNat 32 2) (k0_pay36 A A') U1))) := h4
  generalize k0_pay43 A (iota .tc S128x1024 32 [0] iota_S128x1024_d0_w32) A' = A4 at h4
  generalize stepU (BitVec.ofNat 32 8) _ _ = U4 at h4
  have h5 := h4.step (by simp) ha
  generalize hA5 : stepA (BitVec.ofNat 32 16) A4 = A5 at h5
  generalize hU5 : stepU (BitVec.ofNat 32 16) A4 U4 = U5 at h5
  have h6 := h5.step (by simp) ha
  generalize hA6 : stepA (BitVec.ofNat 32 (16 + 16)) A5 = A6 at h6
  generalize hU6 : stepU (BitVec.ofNat 32 (16 + 16)) A5 U5 = U6 at h6
  have h7 := h6.step (by simp) ha
  intro r c
  beta_reduce
  have e : sumTo (fun j => a j c.val) (fun j => u j c.val) (min 128 (r.val + 1)) r.val = state (fun j => a j c.val) (fun j => u j c.val) r.val := by
    rw [min_eq_right (by have := r.isLt; omega)]; rfl
  rw [← e]
  refine Eq.trans ?_ (h7.2 r c)
  rw [← hU6, ← hA6, ← hU5, ← hA5]
  rfl

end

end Cert.KernelIdeal.Mixer

end
-- ==== Proof.Mixer.KernelHid.lean ====
module

public import proofs.«01_k».proof.Proof.Mixer.KernelScan
@[expose] public section

/-! # One block of the mixer's kernel: the state, and the normed rows -/

set_option maxRecDepth 16384

noncomputable section

namespace Cert.KernelIdeal.Mixer

open Idealize.ShloMosaic Cert.KernelIdeal Cert.KernelIdeal.Gen Idealize.ShloMosaic.TcCoe Cert.Mixer

variable {L : Layer} {b n : ℕ}

theorem minus_two : Ideal.ofBits FTy.f32 3221225472#32 = ((-2 : ℝ) : EReal) := by
  simp [Ideal.ofBits, Ideal.ieee, -EReal.coe_mul]; norm_num

/-- The logarithm of the decay. -/
theorem pay30_eq {v128 : FVec Ideal S128x1024 .f32} {v144 : Vec Ideal S1x1024 .f32}
    (h : Has (blk n fun s c => L.gate 0 b s c + L.br c) v128) (h' : Has (line L.lam) v144) :
    Has (blk n (L.la b)) (k0_pay30 (F := Ideal) v128 v144) := fun r c => by
  refine (show _ = logDecay (v128 (ix2 r c)) (v144 (ix2 0 c)) by
    pointwise [k0_pay30, logDecay]; rfl).trans ?_
  rw [h, h']
  rfl

theorem pay31_eq {v128 : FVec Ideal S128x1024 .f32} {v144 : Vec Ideal S1x1024 .f32}
    (h : Has (blk n fun s c => L.gate 0 b s c + L.br c) v128) (h' : Has (line L.lam) v144) :
    Has (blk n (L.a b)) (k0_pay31 (F := Ideal) v128 v144) := fun r c => by
  refine (show _ = Ideal.exp (k0_pay30 (F := Ideal) v128 v144 (ix2 r c)) by pointwise [k0_pay31]).trans ?_
  rw [pay30_eq h h']
  rfl

theorem first (r : Fin 128) (x y : EReal) :
    Scalar.select (IntOp.cmpi .eq (BitVec.ofNat 32 r.val) 0#32) x y = if r.val = 0 then x else y := by
  rw [show (0#32) = BitVec.ofNat 32 0 from rfl, WordCmp.cmpi_eq_ofNat (by have := r.isLt; omega) (by omega)]
  by_cases h : r.val = 0 <;> simp [Scalar.select, h]

/-- The recurrence's input; the block's first row takes in the state before it. -/
theorem pay32_eq {v78 v128 v137 : FVec Ideal S128x1024 .f32} {v138 v144 v171 : Vec Ideal S1x1024 .f32} {x : ℕ → EReal}
    (h78 : Has (blk n (L.xc b)) v78) (h128 : Has (blk n fun s c => L.gate 0 b s c + L.br c) v128)
    (h137 : Has (blk n (L.gate 128 b)) v137) (h138 : Has (line L.bi) v138) (h144 : Has (line L.lam) v144) (h171 : Has (line x) v171) :
    Has (fun r c => L.u b (n * 128 + r) c + if r = 0 then L.a b (n * 128 + r) c * x c else 0)
      (k0_pay32 (F := Ideal) v78 v128 v137 v138 v144 v171) := fun r c => by
  have hla := pay30_eq h128 h144
  have ha := pay31_eq h128 h144
  unfold k0_pay32
  generalize k0_pay30 (F := Ideal) v128 v144 = la at hla
  generalize k0_pay31 (F := Ideal) v128 v144 = a at ha
  refine (show _ = Ideal.sqrt (Ideal.div (Ideal.ofBits FTy.f32 3221225472#32 * Ideal.tanh (la (ix2 r c))) (1 - Ideal.tanh (la (ix2 r c))))
      * (Ideal.logistic (v137 (ix2 r c) + v138 (ix2 0 c)) * v78 (ix2 r c))
      + Scalar.select (IntOp.cmpi .eq (BitVec.ofNat 32 r.val) 0#32) (a (ix2 r c) * v171 (ix2 0 c)) 0 by pointwise).trans ?_
  rw [first, minus_two, hla, ha, h78, h137, h138, h171]
  rfl

/-- The state, from the gates and the state before the block. -/
theorem hid_eq {v78 v128 v137 : FVec Ideal S128x1024 .f32} {v138 v144 v171 : Vec Ideal S1x1024 .f32} {x : ℕ → EReal}
    (h78 : Has (blk n (L.xc b)) v78) (h128 : Has (blk n fun s c => L.gate 0 b s c + L.br c) v128)
    (h137 : Has (blk n (L.gate 128 b)) v137) (h138 : Has (line L.bi) v138) (h144 : Has (line L.lam) v144) (h171 : Has (line x) v171)
    (hx : ∀ c, x c = if n = 0 then 0 else L.hid b (n * 128 - 1) c) :
    Has (blk n (L.hid b))
      (k0_pay47 (iota .tc S128x1024 32 [0] iota_S128x1024_d0_w32)
        (k0_pay42 (k0_pay31 v128 v144) (iota .tc S128x1024 32 [0] iota_S128x1024_d0_w32) (k0_pay32 v78 v128 v137 v138 v144 v171) k0_pay33
          (k0_pay34 v128 v144) (k0_pay35 v78 v128 v137 v138 v144 v171) (Scalar.ofBits .f32 0x00000000#32))
        (k0_pay43 (k0_pay31 v128 v144) (iota .tc S128x1024 32 [0] iota_S128x1024_d0_w32) (k0_pay34 v128 v144))
        (k0_pay44 (iota .tc S128x1024 32 [0] iota_S128x1024_d0_w32))
        (k0_pay45 (k0_pay31 v128 v144) (iota .tc S128x1024 32 [0] iota_S128x1024_d0_w32) (k0_pay34 v128 v144))
        k0_pay46) := by
  have ha := pay31_eq h128 h144
  have hu := pay32_eq h78 h128 h137 h138 h144 h171
  have e34 : k0_pay34 (F := Ideal) v128 v144 = select k0_pay33 (dynamicRotate 0 1#32 none (k0_pay31 v128 v144) rotates_S128x1024_d0)
    (broadcast S128x1024 (Scalar.ofBits .f32 0x3F800000#32)) := rfl
  have e35 : k0_pay35 (F := Ideal) v78 v128 v137 v138 v144 v171
    = dynamicRotate 0 1#32 none (k0_pay32 v78 v128 v137 v138 v144 v171) rotates_S128x1024_d0 := rfl
  rw [e34, e35]
  generalize k0_pay31 (F := Ideal) v128 v144 = A at ha
  generalize k0_pay32 (F := Ideal) v78 v128 v137 v138 v144 v171 = U at hu
  have hd (j c : ℕ) : Decay (L.a b (n * 128 + j) c) := exp_decay (logDecay_nonpos _ _)
  have h1 : Level (fun j c => L.a b (n * 128 + j) c)
      (fun j c => L.u b (n * 128 + j) c + if j = 0 then L.a b (n * 128 + j) c * x c else 0) 1 A U := by
    refine ⟨fun r c => ?_, fun r c => ?_⟩
    · rw [ha]
      beta_reduce
      rw [min_eq_left (by omega), prodTo_one]
      rfl
    · rw [hu]
      beta_reduce
      rw [min_eq_left (by omega), sumTo_one]
  intro r c
  refine (scanned hd h1 r c).trans ?_
  refine state_block (a := fun j => L.a b j c.val) (u := fun j => L.u b j c.val) (fun j => exp_decay (logDecay_nonpos _ _)) (n * 128) r.val (x c.val) ?_
  rw [hx]
  by_cases h : n = 0
  · simp [h]
  · rw [if_neg h, if_neg (by omega)]
    rfl

/-! ## The normed rows -/

theorem pay11_eq {f : ℕ → ℕ → EReal} {w : ℕ → EReal} {v30 : FVec Ideal S128x1024 .f32} {v31 : Vec Ideal S1x1024 .f32} {v33 : Vec Ideal S128x1024 .bf16} {o : ℕ}
    (h30 : Has (blk n f) v30) (h31 : Has (line w) v31) (h33 : Has (cols L b n o) v33) :
    Has (blk n fun s c => rmsGate (Ideal.ofBits FTy.f32 1149239296#32) (fun j : Fin 1024 => f s j.val) (f s c) (w c) (L.row b s (o + c)))
      (k0_pay11 (F := Ideal) v30 v31 v33) := fun r c => by
  refine (show _ = rmsGate (Ideal.ofBits FTy.f32 1149239296#32) (fun j : Fin 1024 => v30 (ix2 r j)) (v30 (ix2 r c)) (v31 (ix2 0 c)) (v33 (ix2 r c)) by
    pointwise [k0_pay11, rmsGate]).trans ?_
  simp only [h30 _ _, h31 _ _, h33 _ _]
  rfl

theorem pay1_eq {f : ℕ → ℕ → EReal} {w : ℕ → EReal} {v30 : Vec Ideal S128x2048 .f32} {v31 : Vec Ideal S1x2048 .f32} {v33 : Vec Ideal S128x2048 .bf16} {o : ℕ}
    (h30 : Has (blk n f) v30) (h31 : Has (line w) v31) (h33 : Has (cols L b n o) v33) :
    Has (blk n fun s c => rmsGate (Ideal.ofBits FTy.f32 1157627904#32) (fun j : Fin 2048 => f s j.val) (f s c) (w c) (L.row b s (o + c)))
      (k0_pay1 (F := Ideal) v30 v31 v33) := fun r c => by
  refine (show _ = rmsGate (Ideal.ofBits FTy.f32 1157627904#32) (fun j : Fin 2048 => v30 (ix2 r j)) (v30 (ix2 r c)) (v31 (ix2 0 c)) (v33 (ix2 r c)) by
    pointwise [k0_pay1, rmsGate]).trans ?_
  simp only [h30 _ _, h31 _ _, h33 _ _]
  rfl

/-- The third of the rows is normed in parts. -/
theorem pay52_eq {w : ℕ → EReal} {f : ℕ → ℕ → EReal} {v168 : IVec S128x1024 32} {v219 v220 v223 v224 : FVec Ideal S128x1024 .f32} {v222 : IVec S128x1024 1}
    {v31 : Vec Ideal S1x1024 .f32} {v33 : Vec Ideal S128x1024 .bf16} {o : ℕ}
    (h30 : Has (blk n f) (k0_pay47 (F := Ideal) v168 v219 v220 v222 v223 v224)) (h31 : Has (line w) v31) (h33 : Has (cols L b n o) v33) :
    Has (blk n fun s c => rmsGate (Ideal.ofBits FTy.f32 1149239296#32) (fun j : Fin 1024 => f s j.val) (f s c) (w c) (L.row b s (o + c)))
      (k0_pay52 (F := Ideal) (k0_pay47 v168 v219 v220 v222 v223 v224) (k0_pay49 v31) (k0_pay50 v33) (k0_pay51 v168 v219 v220 v222 v223 v224)) := by
  have e : k0_pay52 (F := Ideal) (k0_pay47 v168 v219 v220 v222 v223 v224) (k0_pay49 v31) (k0_pay50 v33) (k0_pay51 v168 v219 v220 v222 v223 v224)
    = k0_pay11 (k0_pay47 v168 v219 v220 v222 v223 v224) v31 v33 := by
    unfold k0_pay51 k0_pay52 k0_pay11 k0_pay49 k0_pay50
    generalize k0_pay47 (F := Ideal) v168 v219 v220 v222 v223 v224 = X
    rfl
  rw [e]
  exact pay11_eq h30 h31 h33

/-- Its last rows are kept. -/
theorem pay48_eq {f : ℕ → ℕ → EReal} {v168 : IVec S128x1024 32} {v219 v220 v223 v224 : FVec Ideal S128x1024 .f32} {v222 : IVec S128x1024 1}
    (h : Has f (k0_pay47 (F := Ideal) v168 v219 v220 v222 v223 v224)) :
    Has (fun r c => f (120 + r) c) (k0_pay48 (F := Ideal) v168 v219 v220 v222 v223 v224) := fun r c => by
  unfold k0_pay48
  generalize k0_pay47 (F := Ideal) v168 v219 v220 v222 v223 v224 = X at h
  exact (show _ = X (ix2 ⟨120 + r.val, by have := r.isLt; omega⟩ c) by pointwise).trans (h _ _)

theorem pay9_eq {f : ℕ → ℕ → EReal} {v : Vec Ideal S8x1024 .f32} (h : Has f v) : Has f (k0_pay9 (F := Ideal) v) := fun r c =>
  (show _ = v (ix2 r c) by pointwise [k0_pay9]).trans (h r c)

theorem pay16_eq {f : ℕ → ℕ → EReal} {v : Vec Ideal S8x1024 .f32} (h : Has f v) : Has f (k0_pay16 (F := Ideal) v) := fun r c =>
  (show _ = v (ix2 r c) by pointwise [k0_pay16]).trans (h r c)

theorem pay57_eq {f : ℕ → ℕ → EReal} {v : Vec Ideal S128x256 .bf16} (h : Has f v) : Has f (k0_pay57 (F := Ideal) v) := fun r c =>
  (show _ = v (ix2 r c) by pointwise [k0_pay57, k0_pay53]).trans (h r c)

theorem pay58_eq {f : ℕ → ℕ → EReal} {v : Vec Ideal S128x256 .bf16} (h : Has f v) : Has f (k0_pay58 (F := Ideal) v) := fun r c =>
  (show _ = v (ix2 r c) by pointwise [k0_pay58, k0_pay54]).trans (h r c)

/-- The keys, or values, of the block before and of the block. -/
def pairs (L : Layer) (b n o : ℕ) : ℕ → ℕ → EReal := fun j c =>
  if 128 ≤ n * 128 + j then L.row b (n * 128 + j - 128) (o + c) else 0

theorem pairs_eq {o : ℕ} {v279 : Vec Ideal S128x256 .f32} {v275 : Vec Ideal S128x256 .bf16} (h : Has (pairs L b n o) v279) (h' : Has (cols L b n o) v275)
    (r : Fin 256) (c : Fin 256) :
    (if h : r.val < 128 then v279 (ix2 ⟨r.val, h⟩ c) else v275 (ix2 ⟨r.val - 128, by have := r.isLt; omega⟩ c)) = pairs L b n o r.val c.val := by
  split_ifs with hr
  · exact h _ _
  · rw [h', pairs, if_pos (by omega), cols]
    congr 1
    simp only []
    omega

theorem pay55_eq {o : ℕ} {v279 : Vec Ideal S128x256 .f32} {v275 : Vec Ideal S128x256 .bf16} (h : Has (pairs L b n o) v279) (h' : Has (cols L b n o) v275) :
    Has (pairs L b n o) (k0_pay55 (F := Ideal) v275 v279) := fun r c =>
  (show _ = (if h : r.val < 128 then v279 (ix2 ⟨r.val, h⟩ c) else v275 (ix2 ⟨r.val - 128, by have := r.isLt; omega⟩ c)) by
    pointwise [k0_pay55, k0_pay53]).trans (pairs_eq h h' r c)

theorem pay56_eq {o : ℕ} {v279 : Vec Ideal S128x256 .f32} {v275 : Vec Ideal S128x256 .bf16} (h : Has (pairs L b n o) v279) (h' : Has (cols L b n o) v275) :
    Has (pairs L b n o) (k0_pay56 (F := Ideal) v275 v279) := fun r c =>
  (show _ = (if h : r.val < 128 then v279 (ix2 ⟨r.val, h⟩ c) else v275 (ix2 ⟨r.val - 128, by have := r.isLt; omega⟩ c)) by
    pointwise [k0_pay56, k0_pay54]).trans (pairs_eq h h' r c)

end Cert.KernelIdeal.Mixer

end
-- ==== Proof.Mixer.KernelAttend.lean ====
module

public import proofs.«01_k».proof.Proof.Mixer.KernelHid
@[expose] public section

/-! # One block of the mixer's kernel: the attention -/

set_option maxRecDepth 16384

noncomputable section

namespace Cert.KernelIdeal.Mixer

open Idealize.ShloMosaic Cert.KernelIdeal Cert.KernelIdeal.Gen Idealize.ShloMosaic.TcCoe Cert.Mixer

variable {L : Layer} {b n : ℕ}

/-! ## Which keys a query sees -/

/-- A number's rest, from the signed rest and its sign. -/
def rest (x m : BitVec 32) : BitVec 32 :=
  Scalar.select (IntOp.andi (IntOp.xori (IntOp.cmpi .slt (IntOp.remsi .vector x (Scalar.select (Scalar.cmpi .eq m 0#32) 1#32 m)) 0#32)
      (Scalar.cmpi .slt (Scalar.select (Scalar.cmpi .eq m 0#32) 1#32 m) 0#32))
      (IntOp.cmpi .ne (IntOp.remsi .vector x (Scalar.select (Scalar.cmpi .eq m 0#32) 1#32 m)) 0#32))
    (IntOp.addi (IntOp.remsi .vector x (Scalar.select (Scalar.cmpi .eq m 0#32) 1#32 m)) (Scalar.select (Scalar.cmpi .eq m 0#32) 1#32 m))
    (IntOp.remsi .vector x (Scalar.select (Scalar.cmpi .eq m 0#32) 1#32 m))

theorem rest_row : ∀ r : Fin 512, rest (BitVec.ofNat 32 r.val) 128#32 = BitVec.ofNat 32 (r.val % 128) := by decide +kernel

theorem rest_col : ∀ r : Fin 512, rest (BitVec.ofNat 32 r.val) 256#32 = BitVec.ofNat 32 (r.val % 256) := by decide +kernel

/-- Which of the 512 columns, two times 256 keys, a row sees. -/
def mask (n : Fin 16) : IVec S512x512 1 := k0_pay63 (BitVec.ofNat 32 n.val) 128#32 k0_pay60 k0_pay61 k0_pay62 0#32

theorem difference {r j : ℕ} (hr : r < 128) (hj : j < 256) :
    (BitVec.ofNat 32 j - BitVec.ofNat 32 r).toInt = (j : ℤ) - r := by
  rw [BitVec.toInt_sub, WordCmp.toInt_ofNat_of_lt (by omega), WordCmp.toInt_ofNat_of_lt (by omega), Int.bmod_eq_of_le (by omega) (by omega)]

theorem mask_eq (n : Fin 16) (r j : Fin 512) :
    mask n (ix2 r j) = BitVec.ofBool (decide (r.val % 128 < j.val % 256 ∧ j.val % 256 ≤ r.val % 128 + 128 ∧ 128 ≤ n.val * 128 + j.val % 256)) := by
  refine (show _ = IntOp.andi (IntOp.andi (IntOp.cmpi .sge (IntOp.subi (rest (BitVec.ofNat 32 j.val) 256#32) (rest (BitVec.ofNat 32 r.val) 128#32)) 1#32)
      (IntOp.cmpi .sle (IntOp.subi (rest (BitVec.ofNat 32 j.val) 256#32) (rest (BitVec.ofNat 32 r.val) 128#32)) 128#32))
      (IntOp.cmpi .sge (rest (BitVec.ofNat 32 j.val) 256#32) (Scalar.select (Scalar.cmpi .eq (BitVec.ofNat 32 n.val) 0#32) 128#32 0#32)) by
    unfold mask
    pointwise [k0_pay63, k0_pay60, k0_pay61, k0_pay62, rest]
    simp only [show Scalar.select (Scalar.cmpi .eq 128#32 0#32) 1#32 128#32 = 128#32 by decide]).trans ?_
  rw [rest_row, rest_col]
  have hr := Nat.mod_lt r.val (show 0 < 128 by decide)
  have hj := Nat.mod_lt j.val (show 0 < 256 by decide)
  generalize r.val % 128 = x at hr
  generalize j.val % 256 = y at hj
  have hz : Scalar.select (Scalar.cmpi .eq (BitVec.ofNat 32 n.val) 0#32) 128#32 0#32 = BitVec.ofNat 32 (if n.val = 0 then 128 else 0) := by
    revert n; decide
  rw [hz, WordCmp.cmpi_sge_ofNat (by omega) (by split_ifs <;> decide)]
  rw [show IntOp.cmpi .sge (IntOp.subi (BitVec.ofNat 32 y) (BitVec.ofNat 32 x)) 1#32 = BitVec.ofBool (decide (x < y)) by
      rw [WordCmp.cmpi_sge_eq, show IntOp.subi (BitVec.ofNat 32 y) (BitVec.ofNat 32 x) = BitVec.ofNat 32 y - BitVec.ofNat 32 x from rfl, difference hr hj]
      congr 1
      exact decide_eq_decide.mpr (by rw [show (1#32).toInt = 1 from rfl]; omega),
    show IntOp.cmpi .sle (IntOp.subi (BitVec.ofNat 32 y) (BitVec.ofNat 32 x)) 128#32 = BitVec.ofBool (decide (y ≤ x + 128)) by
      rw [WordCmp.cmpi_sle_eq, show IntOp.subi (BitVec.ofNat 32 y) (BitVec.ofNat 32 x) = BitVec.ofNat 32 y - BitVec.ofNat 32 x from rfl, difference hr hj]
      congr 1
      exact decide_eq_decide.mpr (by rw [show (128#32).toInt = 128 from rfl]; omega)]
  have h3 : decide ((if n.val = 0 then 128 else 0) ≤ y) = decide (128 ≤ n.val * 128 + y) :=
    decide_eq_decide.mpr (by split_ifs <;> omega)
  rw [h3]
  by_cases h1 : x < y <;> by_cases h2 : y ≤ x + 128 <;> by_cases h4 : 128 ≤ n.val * 128 + y <;> simp [h1, h2, h4, IntOp.andi]

/-! ## Keys and values, even and odd heads one below the other -/

/-- The rows of `g` for the even head in the left half, below them for the odd head in the right half. -/
def Spread (g : ℕ → ℕ → EReal) (V : S512x128.Idx → EReal) : Prop :=
  ∀ (j : Fin 512) (d : Fin 128), V (ix2 j d) =
    if j.val < 256 then (if d.val < 64 then g j.val d.val else 0) else if d.val < 64 then 0 else g (j.val - 256) (d.val - 64)

theorem left (c : Fin 128) (x y : EReal) : Scalar.select (IntOp.cmpi .slt (BitVec.ofNat 32 c.val) 64#32) x y = if c.val < 64 then x else y := by
  rw [show (64#32) = BitVec.ofNat 32 64 from rfl, WordCmp.cmpi_slt_ofNat (by have := c.isLt; omega) (by omega)]
  by_cases h : c.val < 64 <;> simp [Scalar.select, h]

section
variable {X : FVec Ideal S256x256 .f32} {o : ℕ}

theorem pay65_eq (h : Has (pairs L b n o) X) : Spread (pairs L b n (o + 0 * 64)) (k0_pay65 (F := Ideal) X k0_pay59) := fun j d => by
  pointwise [k0_pay65, k0_pay59]
  simp only [left, h _ _]
  split_ifs <;> first | rfl | (simp only [pairs]; congr 2 <;> omega)

theorem pay74_eq (h : Has (pairs L b n o) X) : Spread (pairs L b n (o + 1 * 64)) (k0_pay74 (F := Ideal) X k0_pay59) := fun j d => by
  pointwise [k0_pay74, k0_pay59]
  simp only [left, h _ _]
  split_ifs <;> first | rfl | (simp only [pairs]; congr 2 <;> omega)

theorem pay88_eq (h : Has (pairs L b n o) X) : Spread (pairs L b n (o + 2 * 64)) (k0_pay88 (F := Ideal) (k0_pay87 X k0_pay59)) := fun j d => by
  pointwise [k0_pay88, k0_pay87, k0_pay59]
  simp only [left, h _ _]
  split_ifs <;> first | rfl | (simp only [pairs]; congr 2 <;> omega)

theorem pay109_eq (h : Has (pairs L b n o) X) : Spread (pairs L b n (o + 3 * 64)) (k0_pay109 (F := Ideal) X k0_pay59) := fun j d => by
  pointwise [k0_pay109, k0_pay59]
  simp only [left, h _ _]
  split_ifs <;> first | rfl | (simp only [pairs]; congr 2 <;> omega)

end

/-- A sum over a row's two halves, one of which is nothing. -/
theorem half (Q : ℕ → EReal) (g : ℕ → ℕ → EReal) (J : Fin 512) :
    ∑ x : Fin 128, Q x.val * (if J.val < 256 then (if x.val < 64 then g J.val x.val else 0) else if x.val < 64 then 0 else g (J.val - 256) (x.val - 64))
      = ∑ d : Fin 64, Q (J.val / 256 * 64 + d.val) * g (J.val % 256) d.val := by
  have hJ := J.isLt
  rw [show (∑ x : Fin 128, Q x.val * (if J.val < 256 then (if x.val < 64 then g J.val x.val else 0) else if x.val < 64 then 0 else g (J.val - 256) (x.val - 64)))
    = ∑ x : Fin (64 + 64), Q x.val * (if J.val < 256 then (if x.val < 64 then g J.val x.val else 0) else if x.val < 64 then 0 else g (J.val - 256) (x.val - 64)) from rfl,
    Fin.sum_univ_add]
  by_cases h : J.val < 256
  · simp [h, Nat.div_eq_of_lt h, Nat.mod_eq_of_lt h]
  · simp [h, show J.val / 256 = 1 by omega, show J.val % 256 = J.val - 256 by omega, Nat.add_comm]

/-! ## The scores -/

theorem eighth : Ideal.ofBits FTy.bf16 15872#16 = ((0.125 : ℝ) : EReal) := by
  simp [Ideal.ofBits, Ideal.ieee, -EReal.coe_mul]; norm_num

/-- The four pairs of queries one below the other, an eighth of each. -/
theorem pay85_eq {v1 v2 v3 v4 : Vec Ideal S128x128 .bf16} {o : ℕ} (h1 : Has (cols L b n o) v1) (h2 : Has (cols L b n (o + 128)) v2)
    (h3 : Has (cols L b n (o + 256)) v3) (h4 : Has (cols L b n (o + 384)) v4) (R : Fin 512) (d : Fin 128) :
    k0_pay85 (F := Ideal) v1 v2 v3 v4 (ix2 R d) = L.row b (n * 128 + R.val % 128) (o + (R.val / 128 * 128 + d.val)) * ((0.125 : ℝ) : EReal) := by
  have hR := R.isLt
  pointwise [k0_pay85]
  rw [eighth]
  congr 1
  simp only [h1 _ _, h2 _ _, h3 _ _, h4 _ _, cols]
  split_ifs <;> congr 1 <;> omega

theorem scores {hh : ℕ} {n : Fin 16} {v1 v2 v3 v4 : Vec Ideal S128x128 .bf16} {K : FVec Ideal S512x128 .bf16}
    (h1 : Has (cols L b n (4096 + hh * 512)) v1) (h2 : Has (cols L b n (4096 + hh * 512 + 128)) v2)
    (h3 : Has (cols L b n (4096 + hh * 512 + 256)) v3) (h4 : Has (cols L b n (4096 + hh * 512 + 384)) v4)
    (hK : Spread (pairs L b n (6144 + hh * 64)) K) (R J : Fin 512) :
    k0_pay89 (F := Ideal) (mask n) (k0_pay85 v1 v2 v3 v4) K (ix2 R J)
      = L.score b (n.val * 128 + R.val % 128) (hh * 8 + 2 * (R.val / 128) + J.val / 256) (J.val % 256) := by
  have hR := R.isLt
  have hJ := J.isLt
  generalize hq : k0_pay85 (F := Ideal) v1 v2 v3 v4 = q
  refine (show _ = Scalar.select (mask n (ix2 R J)) (∑ x : Fin 128, q (ix2 R x) * K (ix2 J x)) (Ideal.ofBits FTy.f32 4048155338#32) by
    generalize mask n = M
    pointwise [k0_pay89]).trans ?_
  have hs : ∑ x : Fin 128, q (ix2 R x) * K (ix2 J x) = L.dots b (n.val * 128 + R.val % 128) (hh * 8 + 2 * (R.val / 128) + J.val / 256) (J.val % 256) := by
    simp only [← hq, pay85_eq h1 h2 h3 h4, hK _ _]
    refine (half (fun x => L.row b (n.val * 128 + R.val % 128) (4096 + hh * 512 + (R.val / 128 * 128 + x)) * ((0.125 : ℝ) : EReal))
      (pairs L b n (6144 + hh * 64)) J).trans ?_
    refine Finset.sum_congr (M := EReal) rfl fun d _ => ?_
    have hd := d.isLt
    have e1 : (n.val * 128 + R.val % 128) / 128 * 128 = n.val * 128 := by omega
    have e2 : (hh * 8 + 2 * (R.val / 128) + J.val / 256) / 8 = hh := by omega
    simp only [pairs, Layer.seen, e1, e2]
    congr 2
    · congr 1; omega
    · congr 1; omega
  rw [hs, mask_eq, Layer.score, Layer.seen, show (n.val * 128 + R.val % 128) / 128 * 128 = n.val * 128 by omega,
    show (n.val * 128 + R.val % 128) % 128 = R.val % 128 by omega]
  by_cases h : R.val % 128 < J.val % 256 ∧ J.val % 256 ≤ R.val % 128 + 128 ∧ 128 ≤ n.val * 128 + J.val % 256
  · rw [if_pos h, decide_eq_true h]; rfl
  · rw [if_neg h, decide_eq_false h]; rfl

/-! ## The heads -/

theorem lowest : Ideal.ofBits FTy.f32 4286578688#32 = (⊥ : EReal) := by
  simp [Ideal.ofBits, Ideal.ieee]

/-- The four sinks of the even, or odd, heads. -/
theorem pay67_eq (f : ℕ → EReal) (R : Fin 512) : k0_pay67 (F := Ideal) (f 0) (f 1) (f 2) (f 3) (ix2 R 0) = f (R.val / 128) := by
  have hR := R.isLt
  pointwise [k0_pay67]
  split_ifs <;> congr 1 <;> omega

theorem head {hh : ℕ} {n : ℕ} {V : FVec Ideal S512x128 .bf16} {S : FVec Ideal S512x512 .f32} {K K' : FVec Ideal S512x1 .f32}
    (hV : Spread (pairs L b n (6400 + hh * 64)) V)
    (hS : ∀ R J : Fin 512, S (ix2 R J) = L.score b (n * 128 + R.val % 128) (hh * 8 + 2 * (R.val / 128) + J.val / 256) (J.val % 256))
    (hK : ∀ R : Fin 512, K (ix2 R 0) = L.sinks (hh * 8 + 2 * (R.val / 128)))
    (hK' : ∀ R : Fin 512, K' (ix2 R 0) = L.sinks (hh * 8 + 2 * (R.val / 128) + 1)) (R : Fin 512) (c : Fin 128) :
    k0_pay69 (F := Ideal) k0_pay64 V S K K' (ix2 R c) = L.yb b (n * 128 + R.val % 128) (hh * 512 + R.val / 128 * 128 + c.val) := by
  have hR := R.isLt
  have hc := c.isLt
  pointwise [k0_pay69, k0_pay64]
  rw [left, lowest]
  have e1 : (n * 128 + R.val % 128) / 128 * 128 = n * 128 := by omega
  have e2 : (hh * 8 + 2 * (R.val / 128)) / 8 = hh := by omega
  have e2' : (hh * 8 + 2 * (R.val / 128) + 1) / 8 = hh := by omega
  by_cases h : c.val < 64
  · have e3 : (hh * 512 + R.val / 128 * 128 + c.val) / 64 = hh * 8 + 2 * (R.val / 128) := by omega
    have e4 : (hh * 512 + R.val / 128 * 128 + c.val) % 64 = c.val := by omega
    have a1 (x : Fin 256) : S (ix2 R ⟨x.val, by have := x.isLt; omega⟩) = L.score b (n * 128 + R.val % 128) (hh * 8 + 2 * (R.val / 128)) x.val := by
      rw [hS]; congr 1 <;> (have := x.isLt; simp only []; omega)
    have a2 (x : Fin 256) : V (ix2 ⟨x.val, by have := x.isLt; omega⟩ c) = L.value b (n * 128 + R.val % 128) (hh * 8 + 2 * (R.val / 128)) x.val c.val := by
      rw [hV, if_pos x.isLt, if_pos h, Layer.value, pairs, Layer.seen, e1, e2, Nat.add_assoc]
    have a3 (x : Fin 256) : V (ix2 ⟨256 + x.val, by have := x.isLt; omega⟩ c) = 0 := by
      rw [hV, if_neg (by simp), if_pos h]
    simp only [a1, a2, a3, mul_zero, Finset.sum_const_zero, add_zero, hK, if_pos h]
    rw [Layer.yb, e3, e4]
    rfl
  · have e3 : (hh * 512 + R.val / 128 * 128 + c.val) / 64 = hh * 8 + 2 * (R.val / 128) + 1 := by omega
    have e4 : (hh * 512 + R.val / 128 * 128 + c.val) % 64 = c.val - 64 := by omega
    have a1 (x : Fin 256) : S (ix2 R ⟨256 + x.val, by have := x.isLt; omega⟩) = L.score b (n * 128 + R.val % 128) (hh * 8 + 2 * (R.val / 128) + 1) x.val := by
      rw [hS]; congr 1 <;> (have := x.isLt; simp only []; omega)
    have a2 (x : Fin 256) : V (ix2 ⟨256 + x.val, by have := x.isLt; omega⟩ c) = L.value b (n * 128 + R.val % 128) (hh * 8 + 2 * (R.val / 128) + 1) x.val (c.val - 64) := by
      rw [hV, if_neg (by simp), if_neg h, Layer.value, pairs, Layer.seen, e1, e2', Nat.add_assoc]
      simp
    have a3 (x : Fin 256) : V (ix2 ⟨x.val, by have := x.isLt; omega⟩ c) = 0 := by
      rw [hV, if_pos x.isLt, if_neg h]
    simp only [a1, a2, a3, mul_zero, Finset.sum_const_zero, zero_add, hK', if_neg h]
    rw [Layer.yb, e3, e4]
    rfl

end Cert.KernelIdeal.Mixer

end
-- ==== Proof.Mixer.KernelReads.lean ====
module

public import proofs.«01_k».proof.Proof.Mixer.KernelAttend
public import proofs.«01_k».proof.Proof.Mixer.KernelHid
public import proofs.«01_k».proof.Proof.Mixer.KernelIdealRun
public import Idealize.ShloMosaic.Lib.WritesUnit
public import Idealize.ShloMosaic.Lib.Pipeline.FrameBody
@[expose] public section

/-! # What the mixer's loads read, entry by entry -/

set_option maxRecDepth 16384

noncomputable section

namespace Cert.KernelIdeal.Mixer

open Idealize.ShloMosaic Cert.KernelIdeal Cert.KernelIdeal.Gen Idealize.ShloMosaic.TcCoe Cert.Mixer

/-- The rows from `lo` to before `hi` of the matrix `V` have the entries `f`. -/
def Rows {m w : ℕ} (lo hi : ℕ) (f : ℕ → ℕ → EReal) (V : (⟨2, ![m, w]⟩ : Shape).Idx → EReal) : Prop :=
  ∀ (r : Fin m) (c : Fin w), lo ≤ r.val → r.val < hi → V (ix2 r c) = f r.val c.val

theorem Has.rows {m w : ℕ} {f : ℕ → ℕ → EReal} {V : (⟨2, ![m, w]⟩ : Shape).Idx → EReal} (h : Has f V) (lo hi : ℕ) : Rows lo hi f V :=
  fun r c _ _ => h r c

section
variable {κ : Kind} {sp : Space} {m w h' w' o p : ℕ}

/-- The box of `h'` rows and `w'` columns from row `o` and column `p`. -/
abbrev box (inb : ∀ a, (![o, p] : Fin 2 → ℕ) a + (![h', w'] : Fin 2 → ℕ) a ≤ (⟨2, ![m, w]⟩ : Shape).size a) : Rect ⟨2, ![m, w]⟩ :=
  Rect.unit (s := ⟨2, ![m, w]⟩) ![o, p] ![h', w'] inb

theorem box_idx (inb : ∀ a, (![o, p] : Fin 2 → ℕ) a + (![h', w'] : Fin 2 → ℕ) a ≤ (⟨2, ![m, w]⟩ : Shape).size a) (r : Fin h') (c : Fin w') :
    (box inb).toLoadRect.idx (ix2 r c) = ix2 (⟨o + r.val, lt_of_lt_of_le (Nat.add_lt_add_left r.isLt o) (inb 0)⟩ : Fin m)
      (⟨p + c.val, lt_of_lt_of_le (Nat.add_lt_add_left c.isLt p) (inb 1)⟩ : Fin w) := by
  funext a; apply Fin.ext
  fin_cases a
  · show o + 1 * r.val = o + r.val; omega
  · show p + 1 * c.val = p + c.val; omega

/-- A load of a box reads the box's entries. -/
theorem load32 {A : Memref sig κ sp ⟨2, ![m, w]⟩ .f32} {d : A.view.ty.Contents (Elt Ideal)} {f : ℕ → ℕ → EReal} {lo hi : ℕ}
    (H : Rows lo hi f (A.view.read (Elt Ideal) d))
    (inb : ∀ a, (![o, p] : Fin 2 → ℕ) a + (![h', w'] : Fin 2 → ℕ) a ≤ (⟨2, ![m, w]⟩ : Shape).size a) (ho : lo ≤ o) (hh : o + h' ≤ hi) :
    Has (m := h') (w := w') (fun r c => f (o + r) (p + c)) (A.view.readAt (Elt Ideal) (box inb).toLoadRect d) := fun r c => by
  rw [View.readAt_apply]
  refine (congrArg _ (box_idx inb r c)).trans (H _ _ ?_ ?_)
  · exact le_trans ho (Nat.le_add_right o r.val)
  · show o + r.val < hi
    have := r.isLt; omega

theorem load16 {A : Memref sig κ sp ⟨2, ![m, w]⟩ .bf16} {d : A.view.ty.Contents (Elt Ideal)} {f : ℕ → ℕ → EReal}
    (H : Has f (A.view.read (Elt Ideal) d))
    (inb : ∀ a, (![o, p] : Fin 2 → ℕ) a + (![h', w'] : Fin 2 → ℕ) a ≤ (⟨2, ![m, w]⟩ : Shape).size a) :
    Has (m := h') (w := w') (fun r c => f (o + r) (p + c)) (A.view.readAt (Elt Ideal) (box inb).toLoadRect d) := fun r c => by
  rw [View.readAt_apply]
  exact (congrArg _ (box_idx inb r c)).trans (H _ _)

/-- So does a load of what stores left, wherever these are known. -/
theorem loadCov {A : Memref sig κ sp ⟨2, ![m, w]⟩ .f32} {Ls : List (View.Piece (Elt Ideal) ⟨2, ![m, w]⟩ .f32)} {f : ℕ → ℕ → EReal} {lo hi : ℕ}
    (H : Rows lo hi f (View.canon Ls))
    (inb : ∀ a, (![o, p] : Fin 2 → ℕ) a + (![h', w'] : Fin 2 → ℕ) a ≤ (⟨2, ![m, w]⟩ : Shape).size a) (ho : lo ≤ o) (hh : o + h' ≤ hi) :
    Has (m := h') (w := w') (fun r c => f (o + r) (p + c)) (A.view.readCov Ls (box inb).toLoadRect) := fun r c => by
  rw [View.readCov_eq_canon']
  refine (congrArg _ (box_idx inb r c)).trans (H _ _ ?_ ?_)
  · exact le_trans ho (Nat.le_add_right o r.val)
  · show o + r.val < hi
    have := r.isLt; omega

/-- Of a last store of a box: in the box its entries, -/
theorem canon_in {T : EltTy} (inb : ∀ a, (![o, p] : Fin 2 → ℕ) a + (![h', w'] : Fin 2 → ℕ) a ≤ (⟨2, ![m, w]⟩ : Shape).size a)
    (x : (box inb).shape.Idx → Elt Ideal T) (Ls : List (View.Piece (Elt Ideal) ⟨2, ![m, w]⟩ T)) (r : Fin m) (c : Fin w)
    (hr : o ≤ r.val) (hr' : r.val < o + h') (hc : p ≤ c.val) (hc' : c.val < p + w') :
    View.canon (⟨box inb, x⟩ :: Ls) (ix2 r c) = x (ix2 (⟨r.val - o, by omega⟩ : Fin h') (⟨c.val - p, by omega⟩ : Fin w')) := by
  refine Eq.trans (congrArg _ ?_) (View.canon_cons_emb (box inb) x Ls (ix2 (⟨r.val - o, by omega⟩ : Fin h') (⟨c.val - p, by omega⟩ : Fin w')))
  funext a; apply Fin.ext
  fin_cases a
  · show r.val = o + 1 * (r.val - o); omega
  · show c.val = p + 1 * (c.val - p); omega

/-- and elsewhere what was there. -/
theorem canon_out {T : EltTy} (inb : ∀ a, (![o, p] : Fin 2 → ℕ) a + (![h', w'] : Fin 2 → ℕ) a ≤ (⟨2, ![m, w]⟩ : Shape).size a)
    (x : (box inb).shape.Idx → Elt Ideal T) (Ls : List (View.Piece (Elt Ideal) ⟨2, ![m, w]⟩ T)) (r : Fin m) (c : Fin w)
    (hn : ¬ (o ≤ r.val ∧ r.val < o + h' ∧ p ≤ c.val ∧ c.val < p + w')) :
    View.canon (⟨box inb, x⟩ :: Ls) (ix2 r c) = View.canon Ls (ix2 r c) := by
  refine View.canon_cons_of_not_mem _ Ls fun hy => hn ?_
  have H := (Rect.mem_set_unit (s := ⟨2, ![m, w]⟩) (inb := inb)).mp hy
  have h0 : o ≤ r.val ∧ r.val < o + h' := H 0
  have h1 : p ≤ c.val ∧ c.val < p + w' := H 1
  exact ⟨h0.1, h0.2, h1.1, h1.2⟩

/-- The same over known contents. -/
theorem read_in {T : EltTy} (A : Memref sig κ sp ⟨2, ![m, w]⟩ T) (d : A.view.ty.Contents (Elt Ideal))
    (inb : ∀ a, (![o, p] : Fin 2 → ℕ) a + (![h', w'] : Fin 2 → ℕ) a ≤ (⟨2, ![m, w]⟩ : Shape).size a)
    (x : (box inb).shape.Idx → Elt Ideal T) (Ls : List (View.Piece (Elt Ideal) ⟨2, ![m, w]⟩ T)) (r : Fin m) (c : Fin w)
    (hr : o ≤ r.val) (hr' : r.val < o + h') (hc : p ≤ c.val) (hc' : c.val < p + w') :
    A.view.read (Elt Ideal) (A.view.writes (Elt Ideal) d (⟨box inb, x⟩ :: Ls)) (ix2 r c)
      = x (ix2 (⟨r.val - o, by omega⟩ : Fin h') (⟨c.val - p, by omega⟩ : Fin w')) := by
  refine View.read_writes_cons_unit_of_mem A.view d inb x Ls _ _ rfl fun a => ?_
  fin_cases a
  · show r.val = o + (r.val - o); omega
  · show c.val = p + (c.val - p); omega

theorem read_out {T : EltTy} (A : Memref sig κ sp ⟨2, ![m, w]⟩ T) (d : A.view.ty.Contents (Elt Ideal))
    (inb : ∀ a, (![o, p] : Fin 2 → ℕ) a + (![h', w'] : Fin 2 → ℕ) a ≤ (⟨2, ![m, w]⟩ : Shape).size a)
    (x : (box inb).shape.Idx → Elt Ideal T) (Ls : List (View.Piece (Elt Ideal) ⟨2, ![m, w]⟩ T)) (r : Fin m) (c : Fin w)
    (hn : r.val < o ∨ o + h' ≤ r.val ∨ c.val < p ∨ p + w' ≤ c.val) :
    A.view.read (Elt Ideal) (A.view.writes (Elt Ideal) d (⟨box inb, x⟩ :: Ls)) (ix2 r c)
      = A.view.read (Elt Ideal) (A.view.writes (Elt Ideal) d Ls) (ix2 r c) := by
  rcases hn with hn | hn | hn | hn
  · exact View.read_writes_cons_unit_of_not_mem A.view d inb x Ls _ rfl (0 : Fin 2) (.inl hn)
  · exact View.read_writes_cons_unit_of_not_mem A.view d inb x Ls _ rfl (0 : Fin 2) (.inr hn)
  · exact View.read_writes_cons_unit_of_not_mem A.view d inb x Ls _ rfl (1 : Fin 2) (.inl hn)
  · exact View.read_writes_cons_unit_of_not_mem A.view d inb x Ls _ rfl (1 : Fin 2) (.inr hn)

end

end Cert.KernelIdeal.Mixer
-- ==== Proof.Mixer.KernelHeads.lean ====
module

public import proofs.«01_k».proof.Proof.Mixer.KernelReads
@[expose] public section

/-! # The attention's columns of a block, from its sixteen stores -/

set_option maxRecDepth 16384

noncomputable section

namespace Cert.KernelIdeal.Mixer

open Idealize.ShloMosaic Cert.KernelIdeal Cert.KernelIdeal.Gen Idealize.ShloMosaic.TcCoe Cert.Mixer

variable {L : Layer} {b n : ℕ}

/-- Eight heads' values for four pairs, one pair below the other. -/
def Stack (L : Layer) (b n hh : ℕ) (Y : S512x128.Idx → EReal) : Prop :=
  ∀ (R : Fin 512) (c : Fin 128), Y (ix2 R c) = L.yb b (n * 128 + R.val % 128) (hh * 512 + R.val / 128 * 128 + c.val)

/-- One pair's part of it. -/
theorem quarter {hh : ℕ} {Y : S512x128.Idx → EReal} (hY : Stack L b n hh Y) (p : Fin 4) {o : ℕ} (ho : hh * 512 + p.val * 128 = o)
    {Z : S128x128.Idx → EReal}
    (hZ : ∀ r c : Fin 128, Z (ix2 r c) = Y (ix2 (⟨p.val * 128 + r.val, by have := r.isLt; have := p.isLt; omega⟩ : Fin 512) c)) :
    Has (fun r c => L.yb b (n * 128 + r) (o + c)) Z := fun r c => by
  have := r.isLt
  rw [hZ, hY]
  dsimp only
  subst ho
  congr 1 <;> omega

theorem tile {hh : ℕ} {Y : FVec Ideal S512x128 .f32} (hY : Stack L b n hh Y) (p : Fin 4) {o q : ℕ} (ho : hh * 512 + p.val * 128 = o) (hq : p.val * 128 = q)
    (hs : S512x128.Slices ![q, 0] S128x128) (hc : S128x128.ShapeCasts S128x128) :
    Has (fun r c => L.yb b (n * 128 + r) (o + c)) (shapeCast S128x128 (extractStridedSlice S128x128 ![q, 0] Y hs) hc) := by
  refine quarter hY p ho fun r c => ?_
  subst hq
  pointwise []

/-- The stores so far fill the columns before `k`. -/
def Filled (L : Layer) (b n k : ℕ) (Ls : List (View.Piece (Elt Ideal) S128x2048 .f32)) : Prop :=
  ∀ (r : Fin 128) (c : Fin 2048), c.val < k → View.canon Ls (ix2 r c) = L.yb b (n * 128 + r.val) c.val

theorem Filled.cons {k : ℕ} {Ls : List (View.Piece (Elt Ideal) S128x2048 .f32)} (H : Filled L b n k Ls)
    (inb : ∀ a, (![0, k] : Fin 2 → ℕ) a + (![128, 128] : Fin 2 → ℕ) a ≤ S128x2048.size a) {x : FVec Ideal S128x128 .f32}
    (hx : Has (fun r c => L.yb b (n * 128 + r) (k + c)) x) :
    Filled L b n (k + 128) (⟨Rect.unit (s := S128x2048) ![0, k] S128x128.size inb, x⟩ :: Ls) := fun r c hc => by
  by_cases h : c.val < k
  · exact (canon_out (h' := 128) (w' := 128) inb x Ls r c (by omega)).trans (H r c h)
  · refine (canon_in (h' := 128) (w' := 128) inb x Ls r c (Nat.zero_le _) (by have := r.isLt; omega) (by omega) (by omega)).trans ((hx _ _).trans ?_)
    show L.yb b (n * 128 + (r.val - 0)) (k + (c.val - k)) = _
    rw [Nat.sub_zero, Nat.add_sub_cancel' (by omega)]

theorem pay118_eq (A : IVec S512x128 1) (V : FVec Ideal S512x128 .bf16) (m1 : IVec S256x128 1) (m2 : IVec S512x512 1) (Q : FVec Ideal S512x128 .bf16)
    (v629 v630 v631 : FVec Ideal S256x128 .f32) (s0 s1 s2 s3 s4 s5 s6 s7 : Elt Ideal .f32) :
    k0_pay118 (F := Ideal) A V (k0_pay111 s0 s2 s4 s6) (k0_pay112 s1 s3 s5 s7) (k0_pay114 m1 m2 Q v629 v630 v631)
        (k0_pay115 m1 m2 Q v629 v630 v631 s0 s2 s4 s6) (k0_pay116 m1 m2 Q v629 v630 v631 s1 s3 s5 s7) (k0_pay117 m1 m2 Q v629 v630 v631 s0 s2 s4 s6)
      = k0_pay69 A V (k0_pay110 m1 m2 Q v629 v630 v631) (k0_pay111 s0 s2 s4 s6) (k0_pay112 s1 s3 s5 s7) := by
  unfold k0_pay117 k0_pay116 k0_pay115 k0_pay114 k0_pay113
  generalize k0_pay110 (F := Ideal) m1 m2 Q v629 v630 v631 = S
  generalize k0_pay111 (F := Ideal) s0 s2 s4 s6 = K
  generalize k0_pay112 (F := Ideal) s1 s3 s5 s7 = K'
  rfl

/-- Four sinks, each for one pair's queries. -/
theorem sinks_eq {f : ℕ → EReal} {t0 t1 t2 t3 : EReal} (e0 : t0 = f 0) (e1 : t1 = f 1) (e2 : t2 = f 2) (e3 : t3 = f 3) (R : Fin 512) :
    k0_pay67 (F := Ideal) t0 t1 t2 t3 (ix2 R 0) = f (R.val / 128) := by
  subst e0 e1 e2 e3
  exact pay67_eq f R

section
variable {n : Fin 16} {K V : FVec Ideal S256x256 .f32} (hK : Has (pairs L b n 6144) K) (hV : Has (pairs L b n 6400) V)
  {q1 q2 q3 q4 : Vec Ideal S128x128 .bf16} {s0 s1 s2 s3 s4 s5 s6 s7 : EReal} {Ls : List (View.Piece (Elt Ideal) S128x2048 .f32)}
include hK hV

theorem stack0 (h1 : Has (cols L b n 4096) q1) (h2 : Has (cols L b n 4224) q2)
    (h3 : Has (cols L b n 4352) q3) (h4 : Has (cols L b n 4480) q4)
    (e0 : s0 = L.sinks 0) (e1 : s1 = L.sinks 1) (e2 : s2 = L.sinks 2) (e3 : s3 = L.sinks 3) (e4 : s4 = L.sinks 4) (e5 : s5 = L.sinks 5) (e6 : s6 = L.sinks 6) (e7 : s7 = L.sinks 7) :
    Stack L b n 0 (k0_pay69 (F := Ideal) k0_pay64 (k0_pay65 V k0_pay59) (k0_pay66 K k0_pay59 (mask n) q1 q2 q3 q4) (k0_pay67 s0 s2 s4 s6) (k0_pay68 s1 s3 s5 s7)) := by
  have hS : ∀ R J : Fin 512, k0_pay66 (F := Ideal) K k0_pay59 (mask n) q1 q2 q3 q4 (ix2 R J) = _ := scores (hh := 0) h1 h2 h3 h4 (pay65_eq hK)
  exact head (hh := 0) (K := k0_pay67 s0 s2 s4 s6) (K' := k0_pay68 s1 s3 s5 s7) (pay65_eq hV) hS
    (sinks_eq (f := fun k => L.sinks (0 * 8 + 2 * k)) e0 e2 e4 e6) (sinks_eq (f := fun k => L.sinks (0 * 8 + 2 * k + 1)) e1 e3 e5 e7)

theorem stack1 (h1 : Has (cols L b n 4608) q1) (h2 : Has (cols L b n 4736) q2)
    (h3 : Has (cols L b n 4864) q3) (h4 : Has (cols L b n 4992) q4)
    (e0 : s0 = L.sinks 8) (e1 : s1 = L.sinks 9) (e2 : s2 = L.sinks 10) (e3 : s3 = L.sinks 11) (e4 : s4 = L.sinks 12) (e5 : s5 = L.sinks 13) (e6 : s6 = L.sinks 14) (e7 : s7 = L.sinks 15) :
    Stack L b n 1 (k0_pay79 (F := Ideal) k0_pay64 (k0_pay74 V k0_pay59) (k0_pay75 K k0_pay59 (mask n) q1 q2 q3 q4) (k0_pay76 s0) (k0_pay77 s2) (k0_pay78 s4) s6 s1 s3 s5 s7) := by
  have hS : ∀ R J : Fin 512, k0_pay75 (F := Ideal) K k0_pay59 (mask n) q1 q2 q3 q4 (ix2 R J) = _ := scores (hh := 1) h1 h2 h3 h4 (pay74_eq hK)
  exact head (hh := 1) (K := k0_pay67 s0 s2 s4 s6) (K' := k0_pay68 s1 s3 s5 s7) (pay74_eq hV) hS
    (sinks_eq (f := fun k => L.sinks (1 * 8 + 2 * k)) e0 e2 e4 e6) (sinks_eq (f := fun k => L.sinks (1 * 8 + 2 * k + 1)) e1 e3 e5 e7)

theorem stack2 (h1 : Has (cols L b n 5120) q1) (h2 : Has (cols L b n 5248) q2)
    (h3 : Has (cols L b n 5376) q3) (h4 : Has (cols L b n 5504) q4)
    (e0 : s0 = L.sinks 16) (e1 : s1 = L.sinks 17) (e2 : s2 = L.sinks 18) (e3 : s3 = L.sinks 19) (e4 : s4 = L.sinks 20) (e5 : s5 = L.sinks 21) (e6 : s6 = L.sinks 22) (e7 : s7 = L.sinks 23) :
    Stack L b n 2 (k0_pay100 (F := Ideal) k0_pay64 (k0_pay88 (k0_pay87 V k0_pay59)) (k0_pay96 (mask n) (k0_pay85 q1 q2 q3 q4) (k0_pay86 K k0_pay59) s0 s2 s4 s6) (k0_pay97 (mask n) (k0_pay85 q1 q2 q3 q4) (k0_pay86 K k0_pay59) s1 s3 s5 s7) (k0_pay98 (mask n) (k0_pay85 q1 q2 q3 q4) (k0_pay86 K k0_pay59) s0 s2 s4 s6) (k0_pay99 (mask n) (k0_pay85 q1 q2 q3 q4) (k0_pay86 K k0_pay59) s1 s3 s5 s7)) := by
  have hS : ∀ R J : Fin 512, k0_pay89 (F := Ideal) (mask n) (k0_pay85 q1 q2 q3 q4) (k0_pay86 K k0_pay59) (ix2 R J) = _ := scores (hh := 2) h1 h2 h3 h4 (pay88_eq hK)
  exact head (hh := 2) (K := k0_pay90 s0 s2 s4 s6) (K' := k0_pay91 s1 s3 s5 s7) (pay88_eq hV) hS
    (sinks_eq (f := fun k => L.sinks (2 * 8 + 2 * k)) e0 e2 e4 e6) (sinks_eq (f := fun k => L.sinks (2 * 8 + 2 * k + 1)) e1 e3 e5 e7)

theorem stack3 (h1 : Has (cols L b n 5632) q1) (h2 : Has (cols L b n 5760) q2)
    (h3 : Has (cols L b n 5888) q3) (h4 : Has (cols L b n 6016) q4)
    (e0 : s0 = L.sinks 24) (e1 : s1 = L.sinks 25) (e2 : s2 = L.sinks 26) (e3 : s3 = L.sinks 27) (e4 : s4 = L.sinks 28) (e5 : s5 = L.sinks 29) (e6 : s6 = L.sinks 30) (e7 : s7 = L.sinks 31) :
    Stack L b n 3 (k0_pay118 (F := Ideal) k0_pay64 (k0_pay109 V k0_pay59) (k0_pay111 s0 s2 s4 s6) (k0_pay112 s1 s3 s5 s7) (k0_pay114 k0_pay59 (mask n) (k0_pay105 q1 q2 q3 q4) (k0_pay106 K) (k0_pay107 K) k0_pay108) (k0_pay115 k0_pay59 (mask n) (k0_pay105 q1 q2 q3 q4) (k0_pay106 K) (k0_pay107 K) k0_pay108 s0 s2 s4 s6) (k0_pay116 k0_pay59 (mask n) (k0_pay105 q1 q2 q3 q4) (k0_pay106 K) (k0_pay107 K) k0_pay108 s1 s3 s5 s7) (k0_pay117 k0_pay59 (mask n) (k0_pay105 q1 q2 q3 q4) (k0_pay106 K) (k0_pay107 K) k0_pay108 s0 s2 s4 s6)) := by
  have hS : ∀ R J : Fin 512, k0_pay110 (F := Ideal) k0_pay59 (mask n) (k0_pay105 q1 q2 q3 q4) (k0_pay106 K) (k0_pay107 K) k0_pay108 (ix2 R J) = _ := scores (hh := 3) h1 h2 h3 h4 (pay109_eq hK)
  rw [pay118_eq]
  exact head (hh := 3) (K := k0_pay111 s0 s2 s4 s6) (K' := k0_pay112 s1 s3 s5 s7) (pay109_eq hV) hS
    (sinks_eq (f := fun k => L.sinks (3 * 8 + 2 * k)) e0 e2 e4 e6) (sinks_eq (f := fun k => L.sinks (3 * 8 + 2 * k + 1)) e1 e3 e5 e7)

theorem tiles0 (h1 : Has (cols L b n 4096) q1) (h2 : Has (cols L b n 4224) q2)
    (h3 : Has (cols L b n 4352) q3) (h4 : Has (cols L b n 4480) q4)
    (e0 : s0 = L.sinks 0) (e1 : s1 = L.sinks 1) (e2 : s2 = L.sinks 2) (e3 : s3 = L.sinks 3) (e4 : s4 = L.sinks 4) (e5 : s5 = L.sinks 5) (e6 : s6 = L.sinks 6) (e7 : s7 = L.sinks 7)
    (H : Filled L b n 0 Ls) :
    Filled L b n 512 (
      ⟨Rect.unit (s := S128x2048) ![0, 384] S128x128.size inb_S128x2048_S128x128_0_384, k0_pay73 (k0_pay69 k0_pay64 (k0_pay65 V k0_pay59) (k0_pay66 K k0_pay59 (mask n) q1 q2 q3 q4) (k0_pay67 s0 s2 s4 s6) (k0_pay68 s1 s3 s5 s7))⟩ ::
      ⟨Rect.unit (s := S128x2048) ![0, 256] S128x128.size inb_S128x2048_S128x128_0_256, k0_pay72 k0_pay64 (k0_pay65 V k0_pay59) (k0_pay66 K k0_pay59 (mask n) q1 q2 q3 q4) (k0_pay67 s0 s2 s4 s6) (k0_pay68 s1 s3 s5 s7)⟩ ::
      ⟨Rect.unit (s := S128x2048) ![0, 128] S128x128.size inb_S128x2048_S128x128_0_128, k0_pay71 k0_pay64 (k0_pay65 V k0_pay59) (k0_pay66 K k0_pay59 (mask n) q1 q2 q3 q4) (k0_pay67 s0 s2 s4 s6) (k0_pay68 s1 s3 s5 s7)⟩ ::
      ⟨Rect.unit (s := S128x2048) ![0, 0] S128x128.size inb_S128x2048_S128x128_0_0, k0_pay70 k0_pay64 (k0_pay65 V k0_pay59) (k0_pay66 K k0_pay59 (mask n) q1 q2 q3 q4) (k0_pay67 s0 s2 s4 s6) (k0_pay68 s1 s3 s5 s7)⟩ ::
      Ls) := by
  have Y := stack0 hK hV h1 h2 h3 h4 e0 e1 e2 e3 e4 e5 e6 e7
  exact (((H.cons _ (tile Y 0 (q := 0) rfl rfl slices_S512x128_o0_0_S128x128 shapeCasts_S128x128_S128x128)).cons _ (tile Y 1 rfl rfl _ _)).cons _ (tile Y 2 rfl rfl _ _)).cons _ (tile Y 3 rfl rfl _ _)

theorem tiles1 (h1 : Has (cols L b n 4608) q1) (h2 : Has (cols L b n 4736) q2)
    (h3 : Has (cols L b n 4864) q3) (h4 : Has (cols L b n 4992) q4)
    (e0 : s0 = L.sinks 8) (e1 : s1 = L.sinks 9) (e2 : s2 = L.sinks 10) (e3 : s3 = L.sinks 11) (e4 : s4 = L.sinks 12) (e5 : s5 = L.sinks 13) (e6 : s6 = L.sinks 14) (e7 : s7 = L.sinks 15)
    (H : Filled L b n 512 Ls) :
    Filled L b n 1024 (
      ⟨Rect.unit (s := S128x2048) ![0, 896] S128x128.size inb_S128x2048_S128x128_0_896, k0_pay84 (k0_pay79 k0_pay64 (k0_pay74 V k0_pay59) (k0_pay75 K k0_pay59 (mask n) q1 q2 q3 q4) (k0_pay76 s0) (k0_pay77 s2) (k0_pay78 s4) s6 s1 s3 s5 s7)⟩ ::
      ⟨Rect.unit (s := S128x2048) ![0, 768] S128x128.size inb_S128x2048_S128x128_0_768, k0_pay83 (k0_pay79 k0_pay64 (k0_pay74 V k0_pay59) (k0_pay75 K k0_pay59 (mask n) q1 q2 q3 q4) (k0_pay76 s0) (k0_pay77 s2) (k0_pay78 s4) s6 s1 s3 s5 s7)⟩ ::
      ⟨Rect.unit (s := S128x2048) ![0, 640] S128x128.size inb_S128x2048_S128x128_0_640, k0_pay82 (k0_pay79 k0_pay64 (k0_pay74 V k0_pay59) (k0_pay75 K k0_pay59 (mask n) q1 q2 q3 q4) (k0_pay76 s0) (k0_pay77 s2) (k0_pay78 s4) s6 s1 s3 s5 s7)⟩ ::
      ⟨Rect.unit (s := S128x2048) ![0, 512] S128x128.size inb_S128x2048_S128x128_0_512, k0_pay81 (k0_pay80 k0_pay64 (k0_pay74 V k0_pay59) (k0_pay75 K k0_pay59 (mask n) q1 q2 q3 q4) (k0_pay76 s0) (k0_pay77 s2) (k0_pay78 s4) s6 s1 s3 s5 s7)⟩ ::
      Ls) := by
  have Y := stack1 hK hV h1 h2 h3 h4 e0 e1 e2 e3 e4 e5 e6 e7
  exact (((H.cons _ (tile Y 0 (q := 0) rfl rfl slices_S512x128_o0_0_S128x128 shapeCasts_S128x128_S128x128)).cons _ (tile Y 1 rfl rfl _ _)).cons _ (tile Y 2 rfl rfl _ _)).cons _ (tile Y 3 rfl rfl _ _)

theorem tiles2 (h1 : Has (cols L b n 5120) q1) (h2 : Has (cols L b n 5248) q2)
    (h3 : Has (cols L b n 5376) q3) (h4 : Has (cols L b n 5504) q4)
    (e0 : s0 = L.sinks 16) (e1 : s1 = L.sinks 17) (e2 : s2 = L.sinks 18) (e3 : s3 = L.sinks 19) (e4 : s4 = L.sinks 20) (e5 : s5 = L.sinks 21) (e6 : s6 = L.sinks 22) (e7 : s7 = L.sinks 23)
    (H : Filled L b n 1024 Ls) :
    Filled L b n 1536 (
      ⟨Rect.unit (s := S128x2048) ![0, 1408] S128x128.size inb_S128x2048_S128x128_0_1408, k0_pay104 k0_pay64 (k0_pay88 (k0_pay87 V k0_pay59)) (k0_pay96 (mask n) (k0_pay85 q1 q2 q3 q4) (k0_pay86 K k0_pay59) s0 s2 s4 s6) (k0_pay97 (mask n) (k0_pay85 q1 q2 q3 q4) (k0_pay86 K k0_pay59) s1 s3 s5 s7) (k0_pay98 (mask n) (k0_pay85 q1 q2 q3 q4) (k0_pay86 K k0_pay59) s0 s2 s4 s6) (k0_pay99 (mask n) (k0_pay85 q1 q2 q3 q4) (k0_pay86 K k0_pay59) s1 s3 s5 s7)⟩ ::
      ⟨Rect.unit (s := S128x2048) ![0, 1280] S128x128.size inb_S128x2048_S128x128_0_1280, k0_pay103 k0_pay64 (k0_pay88 (k0_pay87 V k0_pay59)) (k0_pay96 (mask n) (k0_pay85 q1 q2 q3 q4) (k0_pay86 K k0_pay59) s0 s2 s4 s6) (k0_pay97 (mask n) (k0_pay85 q1 q2 q3 q4) (k0_pay86 K k0_pay59) s1 s3 s5 s7) (k0_pay98 (mask n) (k0_pay85 q1 q2 q3 q4) (k0_pay86 K k0_pay59) s0 s2 s4 s6) (k0_pay99 (mask n) (k0_pay85 q1 q2 q3 q4) (k0_pay86 K k0_pay59) s1 s3 s5 s7)⟩ ::
      ⟨Rect.unit (s := S128x2048) ![0, 1152] S128x128.size inb_S128x2048_S128x128_0_1152, k0_pay102 k0_pay64 (k0_pay88 (k0_pay87 V k0_pay59)) (k0_pay96 (mask n) (k0_pay85 q1 q2 q3 q4) (k0_pay86 K k0_pay59) s0 s2 s4 s6) (k0_pay97 (mask n) (k0_pay85 q1 q2 q3 q4) (k0_pay86 K k0_pay59) s1 s3 s5 s7) (k0_pay98 (mask n) (k0_pay85 q1 q2 q3 q4) (k0_pay86 K k0_pay59) s0 s2 s4 s6) (k0_pay99 (mask n) (k0_pay85 q1 q2 q3 q4) (k0_pay86 K k0_pay59) s1 s3 s5 s7)⟩ ::
      ⟨Rect.unit (s := S128x2048) ![0, 1024] S128x128.size inb_S128x2048_S128x128_0_1024, k0_pay101 k0_pay64 (k0_pay88 (k0_pay87 V k0_pay59)) (k0_pay96 (mask n) (k0_pay85 q1 q2 q3 q4) (k0_pay86 K k0_pay59) s0 s2 s4 s6) (k0_pay97 (mask n) (k0_pay85 q1 q2 q3 q4) (k0_pay86 K k0_pay59) s1 s3 s5 s7) (k0_pay98 (mask n) (k0_pay85 q1 q2 q3 q4) (k0_pay86 K k0_pay59) s0 s2 s4 s6) (k0_pay99 (mask n) (k0_pay85 q1 q2 q3 q4) (k0_pay86 K k0_pay59) s1 s3 s5 s7)⟩ ::
      Ls) := by
  have Y := stack2 hK hV h1 h2 h3 h4 e0 e1 e2 e3 e4 e5 e6 e7
  exact (((H.cons _ (tile Y 0 (q := 0) rfl rfl slices_S512x128_o0_0_S128x128 shapeCasts_S128x128_S128x128)).cons _ (tile Y 1 rfl rfl _ _)).cons _ (tile Y 2 rfl rfl _ _)).cons _ (tile Y 3 rfl rfl _ _)

theorem tiles3 (h1 : Has (cols L b n 5632) q1) (h2 : Has (cols L b n 5760) q2)
    (h3 : Has (cols L b n 5888) q3) (h4 : Has (cols L b n 6016) q4)
    (e0 : s0 = L.sinks 24) (e1 : s1 = L.sinks 25) (e2 : s2 = L.sinks 26) (e3 : s3 = L.sinks 27) (e4 : s4 = L.sinks 28) (e5 : s5 = L.sinks 29) (e6 : s6 = L.sinks 30) (e7 : s7 = L.sinks 31)
    (H : Filled L b n 1536 Ls) :
    Filled L b n 2048 (
      ⟨Rect.unit (s := S128x2048) ![0, 1920] S128x128.size inb_S128x2048_S128x128_0_1920, k0_pay122 k0_pay64 (k0_pay109 V k0_pay59) (k0_pay111 s0 s2 s4 s6) (k0_pay112 s1 s3 s5 s7) (k0_pay114 k0_pay59 (mask n) (k0_pay105 q1 q2 q3 q4) (k0_pay106 K) (k0_pay107 K) k0_pay108) (k0_pay115 k0_pay59 (mask n) (k0_pay105 q1 q2 q3 q4) (k0_pay106 K) (k0_pay107 K) k0_pay108 s0 s2 s4 s6) (k0_pay116 k0_pay59 (mask n) (k0_pay105 q1 q2 q3 q4) (k0_pay106 K) (k0_pay107 K) k0_pay108 s1 s3 s5 s7) (k0_pay117 k0_pay59 (mask n) (k0_pay105 q1 q2 q3 q4) (k0_pay106 K) (k0_pay107 K) k0_pay108 s0 s2 s4 s6)⟩ ::
      ⟨Rect.unit (s := S128x2048) ![0, 1792] S128x128.size inb_S128x2048_S128x128_0_1792, k0_pay121 k0_pay64 (k0_pay109 V k0_pay59) (k0_pay111 s0 s2 s4 s6) (k0_pay112 s1 s3 s5 s7) (k0_pay114 k0_pay59 (mask n) (k0_pay105 q1 q2 q3 q4) (k0_pay106 K) (k0_pay107 K) k0_pay108) (k0_pay115 k0_pay59 (mask n) (k0_pay105 q1 q2 q3 q4) (k0_pay106 K) (k0_pay107 K) k0_pay108 s0 s2 s4 s6) (k0_pay116 k0_pay59 (mask n) (k0_pay105 q1 q2 q3 q4) (k0_pay106 K) (k0_pay107 K) k0_pay108 s1 s3 s5 s7) (k0_pay117 k0_pay59 (mask n) (k0_pay105 q1 q2 q3 q4) (k0_pay106 K) (k0_pay107 K) k0_pay108 s0 s2 s4 s6)⟩ ::
      ⟨Rect.unit (s := S128x2048) ![0, 1664] S128x128.size inb_S128x2048_S128x128_0_1664, k0_pay120 k0_pay64 (k0_pay109 V k0_pay59) (k0_pay111 s0 s2 s4 s6) (k0_pay112 s1 s3 s5 s7) (k0_pay114 k0_pay59 (mask n) (k0_pay105 q1 q2 q3 q4) (k0_pay106 K) (k0_pay107 K) k0_pay108) (k0_pay115 k0_pay59 (mask n) (k0_pay105 q1 q2 q3 q4) (k0_pay106 K) (k0_pay107 K) k0_pay108 s0 s2 s4 s6) (k0_pay116 k0_pay59 (mask n) (k0_pay105 q1 q2 q3 q4) (k0_pay106 K) (k0_pay107 K) k0_pay108 s1 s3 s5 s7) (k0_pay117 k0_pay59 (mask n) (k0_pay105 q1 q2 q3 q4) (k0_pay106 K) (k0_pay107 K) k0_pay108 s0 s2 s4 s6)⟩ ::
      ⟨Rect.unit (s := S128x2048) ![0, 1536] S128x128.size inb_S128x2048_S128x128_0_1536, k0_pay119 k0_pay64 (k0_pay109 V k0_pay59) (k0_pay111 s0 s2 s4 s6) (k0_pay112 s1 s3 s5 s7) (k0_pay114 k0_pay59 (mask n) (k0_pay105 q1 q2 q3 q4) (k0_pay106 K) (k0_pay107 K) k0_pay108) (k0_pay115 k0_pay59 (mask n) (k0_pay105 q1 q2 q3 q4) (k0_pay106 K) (k0_pay107 K) k0_pay108 s0 s2 s4 s6) (k0_pay116 k0_pay59 (mask n) (k0_pay105 q1 q2 q3 q4) (k0_pay106 K) (k0_pay107 K) k0_pay108 s1 s3 s5 s7) (k0_pay117 k0_pay59 (mask n) (k0_pay105 q1 q2 q3 q4) (k0_pay106 K) (k0_pay107 K) k0_pay108 s0 s2 s4 s6)⟩ ::
      Ls) := by
  have Y := stack3 hK hV h1 h2 h3 h4 e0 e1 e2 e3 e4 e5 e6 e7
  exact (((H.cons _ (tile Y 0 (q := 0) rfl rfl slices_S512x128_o0_0_S128x128 shapeCasts_S128x128_S128x128)).cons _ (tile Y 1 rfl rfl _ _)).cons _ (tile Y 2 rfl rfl _ _)).cons _ (tile Y 3 rfl rfl _ _)

end

end Cert.KernelIdeal.Mixer
-- ==== Proof.Mixer.KernelVals.lean ====
module

public import proofs.«01_k».proof.Proof.Mixer.KernelHeads
@[expose] public section

/-! # A block of the mixer's result, and of its scratch, from those before -/

set_option maxRecDepth 16384

noncomputable section

namespace Cert.KernelIdeal.Mixer

open Idealize.ShloMosaic Cert.KernelIdeal Cert.KernelIdeal.Gen Idealize.ShloMosaic.TcCoe Cert.Mixer

variable {L : Layer} {b n : ℕ}

/-! ## Loads -/

section
variable {κ : Kind} {sp : Space} {m w w' o p : ℕ}

theorem known {A : Memref sig κ sp ⟨2, ![m, w]⟩ .f32} (hA : A.IsWhole) {x : Vec Ideal ⟨2, ![m, w]⟩ .f32} {f : ℕ → ℕ → EReal} {lo hi : ℕ}
    (h : Rows lo hi f x) : Rows lo hi f (A.view.read (Elt Ideal) (hA.unread x)) := by
  rw [hA.read_unread]; exact h

theorem loadCols {A : Memref sig κ sp S128x10752 .bf16} (hA : A.IsWhole) {x : Vec Ideal S128x10752 .bf16} (h : Has (cols L b n 0) x)
    (inb : ∀ a, (![0, p] : Fin 2 → ℕ) a + (![128, w'] : Fin 2 → ℕ) a ≤ S128x10752.size a) :
    Has (m := 128) (w := w') (cols L b n p) (A.view.readAt (Elt Ideal) (box inb).toLoadRect (hA.unread x)) := fun r c => by
  refine (load16 (f := cols L b n 0) (by rw [hA.read_unread]; exact h) inb r c).trans ?_
  simp only [cols, Nat.zero_add]

theorem loadLine {A : Memref sig κ sp ⟨2, ![m, w]⟩ .f32} (hA : A.IsWhole) {x : Vec Ideal ⟨2, ![m, w]⟩ .f32} {f : ℕ → ℕ → EReal} (h : Has f x)
    (inb : ∀ a, (![o, 0] : Fin 2 → ℕ) a + (![1, w'] : Fin 2 → ℕ) a ≤ (⟨2, ![m, w]⟩ : Shape).size a) :
    Has (m := 1) (w := w') (line (f o)) (A.view.readAt (Elt Ideal) (box inb).toLoadRect (hA.unread x)) := fun r c => by
  refine (load32 (known hA (h.rows 0 (o + 1))) inb (Nat.zero_le _) le_rfl r c).trans ?_
  have : r.val = 0 := by have := r.isLt; omega
  show f (o + r.val) (0 + c.val) = f o c.val
  rw [this, Nat.zero_add]; rfl

theorem loadWhole {A : Memref sig κ sp ⟨2, ![m, w]⟩ .f32} (hA : A.IsWhole) {x : Vec Ideal ⟨2, ![m, w]⟩ .f32} {f : ℕ → ℕ → EReal} (h : Has f x)
    (inb : ∀ a, (![0, 0] : Fin 2 → ℕ) a + (![m, w] : Fin 2 → ℕ) a ≤ (⟨2, ![m, w]⟩ : Shape).size a) :
    Has f (A.view.readAt (Elt Ideal) (box inb).toLoadRect (hA.unread x)) := fun r c => by
  refine (load32 (known hA (h.rows 0 (0 + m))) inb le_rfl le_rfl r c).trans ?_
  show f (0 + r.val) (0 + c.val) = f r.val c.val
  rw [Nat.zero_add, Nat.zero_add]

theorem Filled.load {A : Memref sig κ sp S128x2048 .f32} {Ls : List (View.Piece (Elt Ideal) S128x2048 .f32)} (F : Filled L b n 2048 Ls)
    (inb : ∀ a, (![0, 0] : Fin 2 → ℕ) a + S128x2048.size a ≤ S128x2048.size a) :
    Has (blk n (L.yb b)) (A.view.readCov Ls (Rect.unit (s := S128x2048) ![0, 0] S128x2048.size inb).toLoadRect) := fun r c => by
  refine (loadCov (h' := 128) (w' := 2048) (f := blk n (L.yb b)) (lo := 0) (hi := 128) (fun r c _ _ => F r c c.isLt) inb le_rfl le_rfl r c).trans ?_
  show blk n (L.yb b) (0 + r.val) (0 + c.val) = _
  rw [Nat.zero_add, Nat.zero_add]

theorem loadGate {A : Memref sig κ sp S8x128x256 .bf16} (hA : A.IsWhole) {x : Vec Ideal S8x128x256 .bf16}
    (h : ∀ (g : Fin 8) (i : Fin 128) (j : Fin 256), x (ix3 g i j) = L.wg g.val i.val j.val) {g : ℕ}
    (inb : ∀ a, (![g, 0, 0] : Fin 3 → ℕ) a + S1x128x256.size a ≤ S8x128x256.size a) :
    Gate L g (A.view.readAt (Elt Ideal) (Rect.unit (s := S8x128x256) ![g, 0, 0] S1x128x256.size inb).toLoadRect (hA.unread x)) := fun i j => by
  have hg : g + 1 ≤ 8 := inb 0
  rw [View.readAt_apply, hA.read_unread]
  refine (congrArg x (?_ : _ = ix3 (⟨g, hg⟩ : Fin 8) i j)).trans (h _ _ _)
  funext a; apply Fin.ext
  fin_cases a
  · show g + 1 * 0 = g; omega
  · show 0 + 1 * i.val = i.val; omega
  · show 0 + 1 * j.val = j.val; omega

theorem loadSink {A : Memref sig κ sp S32 .f32} (hA : A.IsWhole) {x : Vec Ideal S32 .f32} (h : ∀ k : Fin 32, x (ix1 k) = L.sinks k.val) {k : ℕ}
    (inb : ∀ a, (![k] : Fin 1 → ℕ) a + S1.size a ≤ S32.size a) (hp : 0 < S1.numel) :
    A.view.readAt (Elt Ideal) (Rect.unit (s := S32) ![k] S1.size inb).toLoadRect (hA.unread x) (Shape.Idx.first hp) = L.sinks k := by
  have hk : k + 1 ≤ 32 := inb 0
  rw [View.readAt_apply, hA.read_unread]
  refine (congrArg x (?_ : _ = ix1 (⟨k, hk⟩ : Fin 32))).trans (h _)
  funext a; apply Fin.ext
  fin_cases a
  show k + 1 * 0 = k; omega

end

/-! ## What the scratch carries -/

/-- The eight positions before the block and the block: nothing is before the sequence. -/
def back (n : ℕ) (f : ℕ → ℕ → EReal) : ℕ → ℕ → EReal := fun r c => if 8 ≤ n * 128 + r then f (n * 128 + r - 8) c else 0

/-- The second convolution's input. -/
def cx (L : Layer) (b : ℕ) : ℕ → ℕ → EReal := fun s c => L.row b s (8704 + c)

theorem paBack_of {o k : ℕ} (hk : o + k = 8) {X : S128x1024.Idx → EReal} (h : Has (fun r c => back n (L.pa b) (o + r) (0 + c)) X) :
    Has (blk n fun s => L.paBack b s k) X := fun r c => by
  refine (h r c).trans ?_
  simp only [back, blk, Layer.paBack, Nat.zero_add]
  by_cases hr : k ≤ n * 128 + r.val
  · rw [if_pos (by omega), if_pos hr, show n * 128 + (o + r.val) - 8 = n * 128 + r.val - k by omega]
  · rw [if_neg (by omega), if_neg hr]

theorem cxBack_of {o k : ℕ} (hk : o + k = 8) {X : S128x1024.Idx → EReal} (h : Has (fun r c => back n (cx L b) (o + r) (0 + c)) X) :
    Has (blk n fun s => L.cxBack b s k) X := fun r c => by
  refine (h r c).trans ?_
  simp only [back, blk, cx, Layer.cxBack, Nat.zero_add]
  by_cases hr : k ≤ n * 128 + r.val
  · rw [if_pos (by omega), if_pos hr, show n * 128 + (o + r.val) - 8 = n * 128 + r.val - k by omega]
  · rw [if_neg (by omega), if_neg hr]

theorem back_blk {f : ℕ → ℕ → EReal} (r c : ℕ) (hr : 8 ≤ r) : blk n f (r - 8) c = back n f r c := by
  simp only [back, blk]
  rw [if_pos (by omega), show n * 128 + r - 8 = n * 128 + (r - 8) by omega]

section
variable {A : Memref sig .tc .vmem S144x1024 .f32} {f : ℕ → ℕ → EReal} {x : FVec Ideal S128x1024 .f32} (hx : Has (blk n f) x)
include hx

/-- The block stored behind the eight rows before it, -/
theorem behind (hA : A.IsWhole) {d : Vec Ideal S144x1024 .f32} (hd : Rows 0 8 (back n f) d) :
    Rows 0 136 (back n f) (A.view.read (Elt Ideal) (A.view.writes (Elt Ideal) (hA.unread d)
      [⟨Rect.unit (s := S144x1024) ![8, 0] S128x1024.size inb_S144x1024_S128x1024_8_0, x⟩])) := fun r c _ hr => by
  by_cases h : 8 ≤ r.val
  · exact (read_in (h' := 128) (w' := 1024) A _ inb_S144x1024_S128x1024_8_0 x [] r c h (by omega) (Nat.zero_le _) (by have := c.isLt; omega)).trans
      ((hx _ _).trans (back_blk _ _ h))
  · refine (read_out (h' := 128) (w' := 1024) A _ inb_S144x1024_S128x1024_8_0 x [] r c (.inl (by omega))).trans ?_
    rw [View.writes_nil, hA.read_unread]
    exact hd r c (Nat.zero_le _) (by omega)

/-- read only where it was stored, -/
theorem alone : Rows 8 136 (back n f) (View.canon (Val := Elt Ideal) (e := .f32) [⟨Rect.unit (s := S144x1024) ![8, 0] S128x1024.size inb_S144x1024_S128x1024_8_0, x⟩]) := fun r c h hr =>
  (canon_in (T := .f32) (m := 144) (w := 1024) (h' := 128) (w' := 1024) inb_S144x1024_S128x1024_8_0 x [] r c h (by omega) (Nat.zero_le _) (by have := c.isLt; omega)).trans
    ((hx _ _).trans (back_blk _ _ h))

/-- or stored, at the sequence's start, behind eight rows of zeros. -/
theorem afresh (hn : n = 0) {z : FVec Ideal S8x1024 .f32} (hz : ∀ r c, z (ix2 r c) = 0) :
    Rows 0 136 (back n f) (View.canon (Val := Elt Ideal) (e := .f32) [⟨Rect.unit (s := S144x1024) ![8, 0] S128x1024.size inb_S144x1024_S128x1024_8_0, x⟩,
      ⟨Rect.unit (s := S144x1024) ![0, 0] S8x1024.size inb_S144x1024_S8x1024_0_0, z⟩]) := fun r c _ hr => by
  by_cases h : 8 ≤ r.val
  · exact (canon_in (T := .f32) (m := 144) (w := 1024) (h' := 128) (w' := 1024) inb_S144x1024_S128x1024_8_0 x _ r c h (by omega) (Nat.zero_le _) (by have := c.isLt; omega)).trans
      ((hx _ _).trans (back_blk _ _ h))
  · refine (canon_out (T := .f32) (m := 144) (w := 1024) (h' := 128) (w' := 1024) inb_S144x1024_S128x1024_8_0 x _ r c (by omega)).trans ?_
    refine (canon_in (T := .f32) (m := 144) (w := 1024) (h' := 8) (w' := 1024) inb_S144x1024_S8x1024_0_0 z [] r c (Nat.zero_le _) (by omega) (Nat.zero_le _) (by have := c.isLt; omega)).trans ?_
    rw [hz, back, if_neg (by omega)]

end

/-- The block's last eight rows stored before the next block. -/
theorem onward {A : Memref sig .tc .vmem S144x1024 .f32} {d : A.view.ty.Contents (Elt Ideal)} {Ls : List (View.Piece (Elt Ideal) S144x1024 .f32)}
    {f : ℕ → ℕ → EReal} {x : FVec Ideal S8x1024 .f32} (hx : Has (fun r c => back n f (128 + r) (0 + c)) x) :
    Rows 0 8 (back (n + 1) f) (A.view.read (Elt Ideal) (A.view.writes (Elt Ideal) d
      (⟨Rect.unit (s := S144x1024) ![0, 0] S8x1024.size inb_S144x1024_S8x1024_0_0, x⟩ :: Ls))) := fun r c _ hr => by
  refine (read_in (h' := 8) (w' := 1024) A d inb_S144x1024_S8x1024_0_0 x Ls r c (Nat.zero_le _) (by omega) (Nat.zero_le _) (by have := c.isLt; omega)).trans
    ((hx _ _).trans ?_)
  simp only [back, Nat.zero_add, Nat.sub_zero]
  rw [show n * 128 + (128 + r.val) = (n + 1) * 128 + r.val by omega]

/-- A store of the whole. -/
theorem over {m w : ℕ} {A : Memref sig .tc .vmem ⟨2, ![m, w]⟩ .f32} {d : A.view.ty.Contents (Elt Ideal)} {Ls : List (View.Piece (Elt Ideal) ⟨2, ![m, w]⟩ .f32)}
    {f : ℕ → ℕ → EReal} {x : FVec Ideal ⟨2, ![m, w]⟩ .f32} (inb : ∀ a, (![0, 0] : Fin 2 → ℕ) a + (![m, w] : Fin 2 → ℕ) a ≤ (⟨2, ![m, w]⟩ : Shape).size a)
    (hx : Has f x) : Has f (A.view.read (Elt Ideal) (A.view.writes (Elt Ideal) d (⟨box inb, x⟩ :: Ls))) := fun r c =>
  (read_in A d inb x Ls r c (Nat.zero_le _) (by have := r.isLt; omega) (Nat.zero_le _) (by have := c.isLt; omega)).trans (hx _ _)

theorem canonOver {m w : ℕ} {Ls : List (View.Piece (Elt Ideal) ⟨2, ![m, w]⟩ .f32)}
    {f : ℕ → ℕ → EReal} {x : FVec Ideal ⟨2, ![m, w]⟩ .f32} (inb : ∀ a, (![0, 0] : Fin 2 → ℕ) a + (![m, w] : Fin 2 → ℕ) a ≤ (⟨2, ![m, w]⟩ : Shape).size a)
    (hx : Has f x) : Has f (View.canon (⟨box inb, x⟩ :: Ls)) := fun r c =>
  (canon_in inb x Ls r c (Nat.zero_le _) (by have := r.isLt; omega) (Nat.zero_le _) (by have := c.isLt; omega)).trans (hx _ _)

/-- The block's keys, or values, are those before the next block's. -/
theorem pairs_next {o : ℕ} {X : S128x256.Idx → EReal} (h : Has (cols L b n o) X) : Has (pairs L b (n + 1) o) X := fun r c => by
  rw [h, pairs, if_pos (by omega), cols, show (n + 1) * 128 + r.val - 128 = n * 128 + r.val by omega]

theorem pairs_none {o : ℕ} {X : S128x256.Idx → EReal} (hn : n = 0) (h : ∀ r c, X (ix2 r c) = 0) : Has (pairs L b n o) X := fun r c => by
  rw [h, pairs, if_neg (by have := r.isLt; omega)]

/-! ## The zeros that a sequence starts from -/

theorem zero2 (r : Fin 8) (c : Fin 1024) : k0_pay2 (F := Ideal) (ix2 r c) = (0 : EReal) := by pointwise [k0_pay2]

theorem zero3 (r : Fin 8) (c : Fin 1024) : k0_pay3 (F := Ideal) (ix2 r c) = (0 : EReal) := by pointwise [k0_pay3]

theorem zero4 (r : Fin 128) (c : Fin 256) : k0_pay4 (F := Ideal) (ix2 r c) = (0 : EReal) := by pointwise [k0_pay4]

theorem zero5 (r : Fin 128) (c : Fin 256) : k0_pay5 (F := Ideal) (ix2 r c) = (0 : EReal) := by pointwise [k0_pay5]

theorem zero6 (r : Fin 8) (c : Fin 1024) : k0_pay6 (F := Ideal) (ix2 r c) = (0 : EReal) := by pointwise [k0_pay6]

theorem loadZero {κ : Kind} {sp : Space} {m w : ℕ} {A : Memref sig κ sp ⟨2, ![m, w]⟩ .f32} {x : FVec Ideal ⟨2, ![m, w]⟩ .f32}
    (inb : ∀ a, (![0, 0] : Fin 2 → ℕ) a + (![m, w] : Fin 2 → ℕ) a ≤ (⟨2, ![m, w]⟩ : Shape).size a) (hx : ∀ r c, x (ix2 r c) = 0) (r : Fin m) (c : Fin w) :
    A.view.readCov (Val := Elt Ideal) [⟨box inb, x⟩] (box inb).toLoadRect (ix2 r c) = (0 : EReal) :=
  loadCov (A := A) (f := fun _ _ => 0) (Has.rows (canonOver (Ls := []) inb (f := fun _ _ => 0) hx) 0 (0 + m)) inb le_rfl le_rfl r c

/-- What the scratch holds before block `n`, if it is not the first. -/
structure Carry (L : Layer) (b n : ℕ) (S : Scratch Ideal) : Prop where
  pa : Rows 0 8 (back n (L.pa b)) S.pa
  cx : Rows 0 8 (back n (cx L b)) S.cx
  k : Has (pairs L b n 6144) S.k
  v : Has (pairs L b n 6400) S.v
  h : Rows 7 8 (fun _ c => L.hid b (n * 128 - 1) c) S.h

theorem Filled.nil : Filled L b n 0 [] := fun _ _ h => absurd h (Nat.not_lt_zero _)

/-- The block of the result from its three stores. -/
theorem result {κ : Kind} {sp : Space} {A : Memref sig κ sp S128x4096 .bf16} {d : A.view.ty.Contents (Elt Ideal)}
    {x : FVec Ideal S128x1024 .bf16} {y : FVec Ideal S128x2048 .bf16} {z : FVec Ideal S128x1024 .bf16}
    (hx : Has (blk n fun s c => rmsGate (Ideal.ofBits FTy.f32 1149239296#32) (fun j : Fin 1024 => L.ya b s j.val) (L.ya b s c) (L.na c) (L.row b s (3072 + c))) x)
    (hy : Has (blk n fun s c => rmsGate (Ideal.ofBits FTy.f32 1157627904#32) (fun j : Fin 2048 => L.yb b s j.val) (L.yb b s c) (L.nb c) (L.row b s (6656 + c))) y)
    (hz : Has (blk n fun s c => rmsGate (Ideal.ofBits FTy.f32 1149239296#32) (fun j : Fin 1024 => L.hid b s j.val) (L.hid b s c) (L.nc c) (L.row b s (9728 + c))) z)
    (i1 : ∀ a, (![0, 1024] : Fin 2 → ℕ) a + S128x2048.size a ≤ S128x4096.size a) (i2 : ∀ a, (![0, 3072] : Fin 2 → ℕ) a + S128x1024.size a ≤ S128x4096.size a)
    (i3 : ∀ a, (![0, 0] : Fin 2 → ℕ) a + S128x1024.size a ≤ S128x4096.size a) :
    Has (blk n (L.out b)) (A.view.read (Elt Ideal) (A.view.writes (Elt Ideal) d
      [⟨Rect.unit (s := S128x4096) ![0, 1024] S128x2048.size i1, y⟩, ⟨Rect.unit (s := S128x4096) ![0, 3072] S128x1024.size i2, z⟩,
        ⟨Rect.unit (s := S128x4096) ![0, 0] S128x1024.size i3, x⟩])) := fun r c => by
  have hr := r.isLt
  have hc := c.isLt
  unfold blk Layer.out
  by_cases h1 : c.val < 1024
  · rw [if_pos h1]
    refine (read_out (h' := 128) (w' := 2048) A d i1 y _ r c (by omega)).trans ((read_out (h' := 128) (w' := 1024) A d i2 z _ r c (by omega)).trans ?_)
    exact (read_in (h' := 128) (w' := 1024) A d i3 x [] r c (by omega) (by omega) (by omega) (by omega)).trans (hx _ _)
  · rw [if_neg h1]
    by_cases h2 : c.val < 3072
    · rw [if_pos h2]
      exact (read_in (h' := 128) (w' := 2048) A d i1 y _ r c (by omega) (by omega) (by omega) (by omega)).trans (hy _ _)
    · rw [if_neg h2]
      refine (read_out (h' := 128) (w' := 2048) A d i1 y _ r c (by omega)).trans ?_
      exact (read_in (h' := 128) (w' := 1024) A d i2 z _ r c (by omega) (by omega) (by omega) (by omega)).trans (hz _ _)

end Cert.KernelIdeal.Mixer
-- ==== Proof.Mixer.KernelStep.lean ====
module

public import proofs.«01_k».proof.Proof.Mixer.KernelVals
@[expose] public section

/-! # One grid point of the mixer: the result's block and the scratch it leaves -/

set_option maxRecDepth 16384
set_option maxHeartbeats 1000000

noncomputable section

namespace Cert.KernelIdeal.Mixer

open Idealize.ShloMosaic Cert.KernelIdeal Cert.KernelIdeal.Gen Idealize.ShloMosaic.TcCoe Cert.Mixer

/-- What a point finds in its input windows. -/
structure Inputs (L : Layer) (b n : ℕ) (m : (ℓ : Loc nD τ sig) → Buf (Elt Ideal) ℓ) (c : Dev nD) (t : Fin cfg0.N) : Prop where
  sinks : ∀ k : Fin 32, (iblk m c 0 t : Vec Ideal S32 .f32) (ix1 k) = L.sinks k.val
  h : Has (cols L b n 0) (iblk m c 1 t : Vec Ideal S128x10752 .bf16)
  caw : Has L.caw (iblk m c 2 t : Vec Ideal S3x1024 .f32)
  ccw : Has L.ccw (iblk m c 3 t : Vec Ideal S4x1024 .f32)
  ccb : Has (line L.ccb) (iblk m c 4 t : Vec Ideal S1x1024 .f32)
  wg : ∀ (g : Fin 8) (i : Fin 128) (j : Fin 256), (iblk m c 5 t : Vec Ideal S8x128x256 .bf16) (ix3 g i j) = L.wg g.val i.val j.val
  br : Has (line L.br) (iblk m c 6 t : Vec Ideal S1x1024 .f32)
  bi : Has (line L.bi) (iblk m c 7 t : Vec Ideal S1x1024 .f32)
  lam : Has (line L.lam) (iblk m c 8 t : Vec Ideal S1x1024 .f32)
  na : Has (line L.na) (iblk m c 9 t : Vec Ideal S1x1024 .f32)
  nb : Has (line L.nb) (iblk m c 10 t : Vec Ideal S1x2048 .f32)
  nc : Has (line L.nc) (iblk m c 11 t : Vec Ideal S1x1024 .f32)

variable {L : Layer} {b : ℕ} {m : (ℓ : Loc nD τ sig) → Buf (Elt Ideal) ℓ} {c : Dev nD} {t : Fin cfg0.N} {x : Vec Ideal S128x4096 .bf16} {S : Scratch Ideal}

/-- Both gates, from the second convolution. -/
theorem gated {n : ℕ} {v53 v65 : FVec Ideal S128x1024 .f32} {v66 v71 v75 v125 : Vec Ideal S1x1024 .f32} {v67 : Vec Ideal S128x1024 .f32}
    {w0 w1 w2 w3 w4 w5 w6 w7 : Vec Ideal S1x128x256 .bf16} (hX : Has (blk n (L.xc b)) (k0_pay15 (F := Ideal) v53 v65 v66 v67 v71 v75))
    (h0 : Gate L 0 w0) (h1 : Gate L 1 w1) (h2 : Gate L 2 w2) (h3 : Gate L 3 w3) (h4 : Gate L 4 w4) (h5 : Gate L 5 w5) (h6 : Gate L 6 w6) (h7 : Gate L 7 w7)
    (hr : Has (line L.br) v125) :
    Has (blk n fun s c => L.gate 0 b s c + L.br c)
        (k0_pay28 (F := Ideal) (k0_pay17 v53 v65 v66 v67 v71 v75) (k0_pay18 v53 v65 v66 v67 v71 v75 w0) (k0_pay19 v53 v65 v66 v67 v71 v75 w1)
          (k0_pay20 v53 v65 v66 v67 v71 v75 w2) (k0_pay21 v53 v65 v66 v67 v71 v75) (k0_pay22 w3) (constant S128x256 .f32 0#32) w4 w5 w6 w7 v125)
      ∧ Has (blk n (L.gate 128 b))
        (k0_pay29 (F := Ideal) (k0_pay17 v53 v65 v66 v67 v71 v75) (k0_pay18 v53 v65 v66 v67 v71 v75 w0) (k0_pay19 v53 v65 v66 v67 v71 v75 w1)
          (k0_pay20 v53 v65 v66 v67 v71 v75 w2) (k0_pay21 v53 v65 v66 v67 v71 v75) (k0_pay22 w3) (constant S128x256 .f32 0#32) w4 w5 w6 w7) := by
  have h := pay17_eq hX
  exact ⟨pay28_eq h (pay18_eq h h0) (pay19_eq h h1) (pay20_eq h h2) (pay21_eq h) h3 h4 h5 h6 h7 hr,
    pay29_eq h (pay18_eq h h0) (pay19_eq h h1) (pay20_eq h h2) (pay21_eq h) h3 h4 h5 h6 h7⟩

section
variable (I : Inputs L b ((grid0.coords t) 1).val m c t) (C : Carry L b ((grid0.coords t) 1).val S) (h : ¬ cond0 (grid0.coords t))
  (hn : ((grid0.coords t) 1).val ≠ 0)
include I C hn

/-- At a later block of a sequence. -/
theorem pointB : Has (blk ((grid0.coords t) 1).val (L.out b)) (outB m c t x S h) ∧ Carry L b (((grid0.coords t) 1).val + 1) (nextB m c t x S h) := by
  have hpa := pay8_eq (loadCols (whole3 t) I.h inb_S128x10752_S128x1024_0_1024) (loadCols (whole3 t) I.h inb_S128x10752_S128x1024_0_2048)
  have hcx := pay13_eq (loadCols (whole3 t) I.h inb_S128x10752_S128x1024_0_8704)
  have rpa := behind hpa whole15 C.pa
  have rcx := behind (f := cx L b) hcx whole16 C.cx
  have epa := alone hpa
  have ecx := alone (f := cx L b) hcx
  have h53 := pay12_eq (loadCols (whole3 t) I.h inb_S128x10752_S128x1024_0_8704)
  have hX := pay15_eq h53 (loadLine (whole5 t) I.ccw inb_S4x1024_S1x1024_0_0) (loadLine (whole5 t) I.ccw inb_S4x1024_S1x1024_1_0)
    (loadLine (whole5 t) I.ccw inb_S4x1024_S1x1024_2_0) (loadLine (whole5 t) I.ccw inb_S4x1024_S1x1024_3_0) (loadLine (whole6 t) I.ccb inb_S1x1024_S1x1024_0_0)
    (cxBack_of (o := 5) rfl (load32 rcx inb_S144x1024_S128x1024_5_0 (by decide) (by decide)))
    (cxBack_of (o := 6) rfl (load32 rcx inb_S144x1024_S128x1024_6_0 (by decide) (by decide)))
    (cxBack_of (o := 7) rfl (load32 rcx inb_S144x1024_S128x1024_7_0 (by decide) (by decide)))
  have w {g : ℕ} (inb) := loadGate (g := g) (whole7 t) I.wg inb
  have q {p : ℕ} (inb) := loadCols (p := p) (w' := 128) (whole3 t) I.h inb
  have k {i : ℕ} (inb) (hp) := loadSink (k := i) (whole2 t) I.sinks inb hp
  have hG := gated hX (w inb_S8x128x256_S1x128x256_0_0_0) (w inb_S8x128x256_S1x128x256_1_0_0) (w inb_S8x128x256_S1x128x256_2_0_0) (w inb_S8x128x256_S1x128x256_3_0_0) (w inb_S8x128x256_S1x128x256_4_0_0) (w inb_S8x128x256_S1x128x256_5_0_0) (w inb_S8x128x256_S1x128x256_6_0_0) (w inb_S8x128x256_S1x128x256_7_0_0) (loadLine (whole8 t) I.br inb_S1x1024_S1x1024_0_0)
  have hx : ∀ j, (fun j => L.hid b (((grid0.coords t) 1).val * 128 - 1) (0 + j)) j = if ((grid0.coords t) 1).val = 0 then 0 else L.hid b (((grid0.coords t) 1).val * 128 - 1) j :=
    fun j => by
      rw [if_neg hn]
      show L.hid b _ (0 + j) = _
      rw [Nat.zero_add]
  have hl := load32 (known whole19 C.h) inb_S8x1024_S1x1024_7_0 (by decide) (by decide)
  have hH := hid_eq hX hG.1 hG.2 (loadLine (whole9 t) I.bi inb_S1x1024_S1x1024_0_0)
    (loadLine (whole10 t) I.lam inb_S1x1024_S1x1024_0_0) hl hx
  have hK := pay55_eq (loadWhole whole17 C.k inb_S128x256_S128x256_0_0) (loadCols (whole3 t) I.h inb_S128x10752_S128x256_0_6144)
  have hV := pay56_eq (loadWhole whole18 C.v inb_S128x256_S128x256_0_0) (loadCols (whole3 t) I.h inb_S128x10752_S128x256_0_6400)
  constructor
  · refine result ?_ ?_ ?_ inb_S128x4096_S128x2048_0_1024 inb_S128x4096_S128x1024_0_3072 inb_S128x4096_S128x1024_0_0
    · exact pay11_eq (pay10_eq (loadCols (whole3 t) I.h _) (loadCols (whole3 t) I.h _) (loadCols (whole3 t) I.h _)
        (loadLine (whole4 t) I.caw _) (loadLine (whole4 t) I.caw _) (loadLine (whole4 t) I.caw _)
        (paBack_of (o := 6) rfl (load32 rpa _ (by decide) (by decide))) (paBack_of (o := 7) rfl (load32 rpa _ (by decide) (by decide))))
        (loadLine (whole11 t) I.na _) (loadCols (whole3 t) I.h _)
    · refine pay1_eq (Filled.load ?_ _) (loadLine (whole12 t) I.nb _) (loadCols (whole3 t) I.h _)
      refine tiles3 hK hV (q _) (q _) (q _) (q _)
        (k _ _) (k _ _) (k _ _) (k _ _) (k _ _) (k _ _) (k _ _) (k _ _) ?_
      refine tiles2 hK hV (q _) (q _) (q _) (q _)
        (k _ _) (k _ _) (k _ _) (k _ _) (k _ _) (k _ _) (k _ _) (k _ _) ?_
      refine tiles1 hK hV (q _) (q _) (q _) (q _)
        (k _ _) (k _ _) (k _ _) (k _ _) (k _ _) (k _ _) (k _ _) (k _ _) ?_
      refine tiles0 hK hV (q _) (q _) (q _) (q _)
        (k _ _) (k _ _) (k _ _) (k _ _) (k _ _) (k _ _) (k _ _) (k _ _) ?_
      exact Filled.nil
    · exact pay52_eq hH (loadLine (whole13 t) I.nc _) (loadCols (whole3 t) I.h _)
  · have h9 := pay9_eq (loadCov (A := mem15) epa inb_S144x1024_S8x1024_128_0 (by decide) (by decide))
    have h16 := pay16_eq (loadCov (A := mem16) ecx inb_S144x1024_S8x1024_128_0 (by decide) (by decide))
    have h57 := pairs_next (pay57_eq (loadCols (whole3 t) I.h inb_S128x10752_S128x256_0_6144))
    have h58 := pairs_next (pay58_eq (loadCols (whole3 t) I.h inb_S128x10752_S128x256_0_6400))
    have h48 := pay48_eq hH
    refine ⟨?_, ?_, ?_, ?_, ?_⟩ <;> delta nextB runB <;> dsimp only
    · exact onward (A := mem15) h9
    · exact onward (A := mem16) h16
    · exact over (A := mem17) inb_S128x256_S128x256_0_0 h57
    · exact over (A := mem18) inb_S128x256_S128x256_0_0 h58
    · intro r j hr _
      refine (over (A := mem19) inb_S8x1024_S8x1024_0_0 h48 r j).trans ?_
      show L.hid b (((grid0.coords t) 1).val * 128 + (120 + r.val)) j.val = L.hid b ((((grid0.coords t) 1).val + 1) * 128 - 1) j.val
      congr 1
      have := r.isLt
      omega

end

section
variable (I : Inputs L b ((grid0.coords t) 1).val m c t) (h : cond0 (grid0.coords t)) (hn : ((grid0.coords t) 1).val = 0)
include I hn

/-- At the first block of a sequence. -/
theorem pointA : Has (blk ((grid0.coords t) 1).val (L.out b)) (outA m c t x S h) ∧ Carry L b (((grid0.coords t) 1).val + 1) (nextA m c t x S h) := by
  have hpa := pay8_eq (loadCols (whole3 t) I.h inb_S128x10752_S128x1024_0_1024) (loadCols (whole3 t) I.h inb_S128x10752_S128x1024_0_2048)
  have hcx := pay13_eq (loadCols (whole3 t) I.h inb_S128x10752_S128x1024_0_8704)
  have rpa := afresh hpa hn (z := k0_pay2) zero2
  have rcx := afresh (f := cx L b) hcx hn (z := k0_pay3) zero3
  have epa := rpa
  have ecx := rcx
  have h53 := pay12_eq (loadCols (whole3 t) I.h inb_S128x10752_S128x1024_0_8704)
  have hX := pay15_eq h53 (loadLine (whole5 t) I.ccw inb_S4x1024_S1x1024_0_0) (loadLine (whole5 t) I.ccw inb_S4x1024_S1x1024_1_0)
    (loadLine (whole5 t) I.ccw inb_S4x1024_S1x1024_2_0) (loadLine (whole5 t) I.ccw inb_S4x1024_S1x1024_3_0) (loadLine (whole6 t) I.ccb inb_S1x1024_S1x1024_0_0)
    (cxBack_of (o := 5) rfl (loadCov (A := mem16) rcx inb_S144x1024_S128x1024_5_0 (by decide) (by decide)))
    (cxBack_of (o := 6) rfl (loadCov (A := mem16) rcx inb_S144x1024_S128x1024_6_0 (by decide) (by decide)))
    (cxBack_of (o := 7) rfl (loadCov (A := mem16) rcx inb_S144x1024_S128x1024_7_0 (by decide) (by decide)))
  have w {g : ℕ} (inb) := loadGate (g := g) (whole7 t) I.wg inb
  have q {p : ℕ} (inb) := loadCols (p := p) (w' := 128) (whole3 t) I.h inb
  have k {i : ℕ} (inb) (hp) := loadSink (k := i) (whole2 t) I.sinks inb hp
  have hG := gated hX (w inb_S8x128x256_S1x128x256_0_0_0) (w inb_S8x128x256_S1x128x256_1_0_0) (w inb_S8x128x256_S1x128x256_2_0_0) (w inb_S8x128x256_S1x128x256_3_0_0) (w inb_S8x128x256_S1x128x256_4_0_0) (w inb_S8x128x256_S1x128x256_5_0_0) (w inb_S8x128x256_S1x128x256_6_0_0) (w inb_S8x128x256_S1x128x256_7_0_0) (loadLine (whole8 t) I.br inb_S1x1024_S1x1024_0_0)
  have hx : ∀ j, (fun _ => 0) j = if ((grid0.coords t) 1).val = 0 then 0 else L.hid b (((grid0.coords t) 1).val * 128 - 1) j :=
    fun j => by rw [if_pos hn]
  have hl := loadCov (A := mem19) (f := fun _ _ => 0) ((canonOver (Ls := []) (f := fun _ _ => 0) inb_S8x1024_S8x1024_0_0 (x := k0_pay6) zero6).rows 0 8) inb_S8x1024_S1x1024_7_0 (by decide) (by decide)
  have hH := hid_eq hX hG.1 hG.2 (loadLine (whole9 t) I.bi inb_S1x1024_S1x1024_0_0)
    (loadLine (whole10 t) I.lam inb_S1x1024_S1x1024_0_0) hl hx
  have hK := pay55_eq (pairs_none (o := 6144) hn (loadZero (A := mem17) inb_S128x256_S128x256_0_0 (x := k0_pay4) zero4)) (loadCols (whole3 t) I.h inb_S128x10752_S128x256_0_6144)
  have hV := pay56_eq (pairs_none (o := 6400) hn (loadZero (A := mem18) inb_S128x256_S128x256_0_0 (x := k0_pay5) zero5)) (loadCols (whole3 t) I.h inb_S128x10752_S128x256_0_6400)
  constructor
  · refine result ?_ ?_ ?_ inb_S128x4096_S128x2048_0_1024 inb_S128x4096_S128x1024_0_3072 inb_S128x4096_S128x1024_0_0
    · exact pay11_eq (pay10_eq (loadCols (whole3 t) I.h _) (loadCols (whole3 t) I.h _) (loadCols (whole3 t) I.h _)
        (loadLine (whole4 t) I.caw _) (loadLine (whole4 t) I.caw _) (loadLine (whole4 t) I.caw _)
        (paBack_of (o := 6) rfl (loadCov (A := mem15) rpa _ (by decide) (by decide))) (paBack_of (o := 7) rfl (loadCov (A := mem15) rpa _ (by decide) (by decide))))
        (loadLine (whole11 t) I.na _) (loadCols (whole3 t) I.h _)
    · refine pay1_eq (Filled.load ?_ _) (loadLine (whole12 t) I.nb _) (loadCols (whole3 t) I.h _)
      refine tiles3 hK hV (q _) (q _) (q _) (q _)
        (k _ _) (k _ _) (k _ _) (k _ _) (k _ _) (k _ _) (k _ _) (k _ _) ?_
      refine tiles2 hK hV (q _) (q _) (q _) (q _)
        (k _ _) (k _ _) (k _ _) (k _ _) (k _ _) (k _ _) (k _ _) (k _ _) ?_
      refine tiles1 hK hV (q _) (q _) (q _) (q _)
        (k _ _) (k _ _) (k _ _) (k _ _) (k _ _) (k _ _) (k _ _) (k _ _) ?_
      refine tiles0 hK hV (q _) (q _) (q _) (q _)
        (k _ _) (k _ _) (k _ _) (k _ _) (k _ _) (k _ _) (k _ _) (k _ _) ?_
      exact Filled.nil
    · exact pay52_eq hH (loadLine (whole13 t) I.nc _) (loadCols (whole3 t) I.h _)
  · have h9 := pay9_eq (loadCov (A := mem15) epa inb_S144x1024_S8x1024_128_0 (by decide) (by decide))
    have h16 := pay16_eq (loadCov (A := mem16) ecx inb_S144x1024_S8x1024_128_0 (by decide) (by decide))
    have h57 := pairs_next (pay57_eq (loadCols (whole3 t) I.h inb_S128x10752_S128x256_0_6144))
    have h58 := pairs_next (pay58_eq (loadCols (whole3 t) I.h inb_S128x10752_S128x256_0_6400))
    have h48 := pay48_eq hH
    refine ⟨?_, ?_, ?_, ?_, ?_⟩ <;> delta nextA runA <;> dsimp only
    · exact onward (A := mem15) h9
    · exact onward (A := mem16) h16
    · exact over (A := mem17) inb_S128x256_S128x256_0_0 h57
    · exact over (A := mem18) inb_S128x256_S128x256_0_0 h58
    · intro r j hr _
      refine (over (A := mem19) inb_S8x1024_S8x1024_0_0 h48 r j).trans ?_
      show L.hid b (((grid0.coords t) 1).val * 128 + (120 + r.val)) j.val = L.hid b ((((grid0.coords t) 1).val + 1) * 128 - 1) j.val
      congr 1
      have := r.isLt
      omega

end

end Cert.KernelIdeal.Mixer
-- ==== Proof.Mixer.KernelFinal.lean ====
module

public import proofs.«01_k».proof.Proof.Mixer.KernelStep
public import Idealize.ShloMosaic.Lib.Pipeline.ValueKit
public import Idealize.ShloMosaic.Lib.Pipeline.ArrRel
@[expose] public section

/-! # The mixer's whole result -/

set_option maxRecDepth 16384

noncomputable section

namespace Cert.KernelIdeal.Mixer

open Idealize.ShloMosaic Cert.KernelIdeal Cert.KernelIdeal.Gen Idealize.ShloMosaic.TcCoe Idealize.SL.Sem Cert.Mixer

variable {L : Layer} {m : (ℓ : Loc nD τ sig) → Buf (Elt Ideal) ℓ} {c : Dev nD}

/-- The arrays hold the layer `L`. -/
structure Given (L : Layer) (m : (ℓ : Loc nD τ sig) → Buf (Elt Ideal) ℓ) (c : Dev nD) : Prop where
  h : ∀ (i : Fin 8192) (j : Fin 10752), m ((c.tc : Thread nD τ).loc main_arg0) (ix2 i j) = L.h i.val j.val
  sinks : ∀ i : Fin 32, m ((c.tc : Thread nD τ).loc main_arg1) (ix1 i) = L.sinks i.val
  caw : ∀ (i : Fin 3) (j : Fin 1024), m ((c.tc : Thread nD τ).loc main_arg2) (ix2 i j) = L.caw i.val j.val
  ccw : ∀ (i : Fin 4) (j : Fin 1024), m ((c.tc : Thread nD τ).loc main_arg3) (ix2 i j) = L.ccw i.val j.val
  ccb : ∀ i : Fin 1024, m ((c.tc : Thread nD τ).loc main_arg4) (ix1 i) = L.ccb i.val
  wg : ∀ (i : Fin 8) (j : Fin 128) (k : Fin 256), m ((c.tc : Thread nD τ).loc main_arg5) (ix3 i j k) = L.wg i.val j.val k.val
  br : ∀ i : Fin 1024, m ((c.tc : Thread nD τ).loc main_arg6) (ix1 i) = L.br i.val
  bi : ∀ i : Fin 1024, m ((c.tc : Thread nD τ).loc main_arg7) (ix1 i) = L.bi i.val
  lam : ∀ i : Fin 1024, m ((c.tc : Thread nD τ).loc main_arg8) (ix1 i) = L.lam i.val
  na : ∀ i : Fin 1024, m ((c.tc : Thread nD τ).loc main_arg9) (ix1 i) = L.na i.val
  nb : ∀ i : Fin 2048, m ((c.tc : Thread nD τ).loc main_arg10) (ix1 i) = L.nb i.val
  nc : ∀ i : Fin 1024, m ((c.tc : Thread nD τ).loc main_arg11) (ix1 i) = L.nc i.val

/-- Where a point is: the sequence and the block, the rows it reads and the rows it writes. -/
theorem place : ∀ t : Fin cfg0.N, ((grid0.coords t) 1).val = t.val % 16 ∧ win0_1.index t = ![t.val, 0] ∧ win0_12.index t = ![t.val, 0] :=
  (by decide +kernel : ∀ t : Fin grid0.N, _)

theorem first_iff : ∀ t : Fin cfg0.N, cond0 (grid0.coords t) ↔ t.val % 16 = 0 :=
  (by decide +kernel : ∀ t : Fin grid0.N, _)

/-- The other operands are read whole at every point. -/
theorem still : ∀ t : Fin cfg0.N, win0_0.index t = ![0] ∧ win0_2.index t = ![0, 0] ∧ win0_3.index t = ![0, 0] ∧ win0_4.index t = ![0, 0]
    ∧ win0_5.index t = ![0, 0, 0] ∧ win0_6.index t = ![0, 0] ∧ win0_7.index t = ![0, 0] ∧ win0_8.index t = ![0, 0] ∧ win0_9.index t = ![0, 0]
    ∧ win0_10.index t = ![0, 0] ∧ win0_11.index t = ![0, 0] :=
  (by decide +kernel : ∀ t : Fin grid0.N, _)

/-- What the launch put there, a point finds in its windows. -/
theorem Given.inputs (G : Given L m c) (t : Fin cfg0.N) : Inputs L (t.val / 16) ((grid0.coords t) 1).val m c t := by
  obtain ⟨e0, e2, e3, e4, e5, e6, e7, e8, e9, e10, e11⟩ := still t
  obtain ⟨en, e1, -⟩ := place t
  refine ⟨fun k => ?_, fun r j => ?_, fun r j => ?_, fun r j => ?_, fun r j => ?_, fun g r j => ?_, fun r j => ?_, fun r j => ?_, fun r j => ?_,
    fun r j => ?_, fun r j => ?_, fun r j => ?_⟩
  · refine Eq.trans ?_ (G.sinks k); blk_point [iblk, V, e0]
  · have ht : t.val < 64 := t.isLt
    have hr := r.isLt
    have e : iblk m c 1 t (ix2 r j) = m ((c.tc : Thread nD τ).loc main_arg0) (ix2 (⟨t.val * 128 + r.val, by omega⟩ : Fin 8192) j) := by
      blk_point [iblk, V, e1]
    refine e.trans ((G.h _ _).trans ?_)
    show L.h (t.val * 128 + r.val) j.val = L.h (t.val / 16 * 2048 + (((grid0.coords t) 1).val * 128 + r.val)) (0 + j.val)
    rw [en, Nat.zero_add]
    congr 1
    omega
  · refine Eq.trans ?_ (G.caw r j); blk_point [iblk, V, e2]
  · refine Eq.trans ?_ (G.ccw r j); blk_point [iblk, V, e3]
  · refine Eq.trans ?_ (G.ccb j); blk_point [iblk, V, e4]
  · refine Eq.trans ?_ (G.wg g r j); blk_point [iblk, V, e5]
  · refine Eq.trans ?_ (G.br j); blk_point [iblk, V, e6]
  · refine Eq.trans ?_ (G.bi j); blk_point [iblk, V, e7]
  · refine Eq.trans ?_ (G.lam j); blk_point [iblk, V, e8]
  · refine Eq.trans ?_ (G.na j); blk_point [iblk, V, e9]
  · refine Eq.trans ?_ (G.nb j); blk_point [iblk, V, e10]
  · refine Eq.trans ?_ (G.nc j); blk_point [iblk, V, e11]

/-- What holds of the scratch before a point: nothing at a sequence's first, else what its block before left. -/
def Before (L : Layer) (t : ℕ) (S : Scratch Ideal) : Prop := t % 16 ≠ 0 → Carry L (t / 16) (t % 16) S

/-- What a point leaves in the result's block. -/
def Leaves (L : Layer) (t : ℕ) (X : Vec Ideal S128x4096 .bf16) : Prop := Has (blk (t % 16) (L.out (t / 16))) X

theorem Before.of {t : ℕ} {S : Scratch Ideal} (C : Carry L (t / 16) (t % 16 + 1) S) : Before L (t + 1) S := fun h => by
  rw [show (t + 1) / 16 = t / 16 by omega, show (t + 1) % 16 = t % 16 + 1 by omega]
  exact C

theorem firsts (G : Given L m c) (t : Fin cfg0.N) (x : Vec Ideal S128x4096 .bf16) (S : Scratch Ideal) (h : cond0 (grid0.coords t)) :
    Before L (t.val + 1) (nextA m c t x S h) ∧ Leaves L t.val (outA m c t x S h) := by
  have H := pointA (x := x) (S := S) (G.inputs t) h ((place t).1.trans ((first_iff t).mp h))
  rw [(place t).1] at H
  exact ⟨.of H.2, H.1⟩

theorem laters (G : Given L m c) (t : Fin cfg0.N) (x : Vec Ideal S128x4096 .bf16) (S : Scratch Ideal) (h : ¬ cond0 (grid0.coords t))
    (hS : Before L t.val S) : Before L (t.val + 1) (nextB m c t x S h) ∧ Leaves L t.val (outB m c t x S h) := by
  have h0 : t.val % 16 ≠ 0 := fun e => h ((first_iff t).mpr e)
  have C : Carry L (t.val / 16) ((grid0.coords t) 1).val S := by rw [(place t).1]; exact hS h0
  have H := pointB (x := x) (G.inputs t) C h (by rw [(place t).1]; exact h0)
  rw [(place t).1] at H
  exact ⟨.of H.2, H.1⟩

/-- The arguments are as they were. -/
def Same (m m' : (ℓ : Loc nD τ sig) → Buf (Elt Ideal) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)
  ∧ m' ((c.tc : Thread nD τ).loc main_arg11) = m ((c.tc : Thread nD τ).loc main_arg11)

/-- The result of the run: the layer's, at every index. -/
theorem ran (m : (ℓ : Loc nD τ sig) → Buf (Elt Ideal) ℓ) (ρ : Dev nD → PrngReg) (L : Dev nD → Layer) (G : ∀ c, Given (L c) m c) :
    θ_run defs (onTc (τ := τ) (main (F := Ideal))) ⟨m, fun _ => 0, ρ⟩ fun r => ∀ c : Dev nD,
      (∀ (i : Fin 8192) (j : Fin 4096), r.2.mem ((c.tc : Thread nD τ).loc main_v7) (ix2 i j) = (L c).out (i.val / 2048) (i.val % 2048) j.val)
      ∧ Same m r.2.mem c := by
  refine (θ_run defs _ _).mono (fun r h c => ?_)
    (run m ρ (fun c t S => Before (L c) t S) (fun c t X => Leaves (L c) t.val X) (fun c t x S h _ => firsts (G c) t x S h)
      (fun c t x S h hS => laters (G c) t x S h hS) fun c S h => absurd rfl h)
  obtain ⟨after, hL, hA⟩ := Pipeline.RDat.FramePost.exists_exact h.1 c
  refine ⟨fun i j => ?_, unchanged m ρ _ _ r h.1 c⟩
  refine (congrFun ((hA 12).trans (Pipeline.Dat.arrAt_eq_of_covers _ 12 (fun y => (L c).out ((y 0).val / 2048) ((y 0).val % 2048) (y 1).val)
    (by decide +kernel) fun t hf y => ?_)) (ix2 i j))
  obtain ⟨Y, -, H⟩ := hL 12 t hf
  rw [Pipeline.Dat.toRRel_after_of_eq_true _ (show marked 12 = true from rfl)] at H
  replace H : Leaves (L c) t.val (after 12 t) := H
  have e := (place t).2.2
  rw [Pipeline.RDat.withAfter_after]
  generalize after 12 t = X at H
  clear hL hA h Y after
  blk_simp [e]
  refine (congrArg X (show y = ix2 (y 0 : Fin 128) (y 1 : Fin 4096) from funext fun a => by fin_cases a <;> rfl)).trans ((H (y 0) (y 1)).trans ?_)
  show (L c).out (t.val / 16) (t.val % 16 * 128 + (y 0 : Fin 128).val) (y 1 : Fin 4096).val = (L c).out _ _ _
  have hy : (y 0 : Fin 128).val < 128 := (y 0 : Fin 128).isLt
  have ht : t.val < 64 := t.isLt
  congr 1 <;> omega

end Cert.KernelIdeal.Mixer

end
-- ==== Proof.Mixer.Value.lean ====
module

public import proofs.«01_k».proof.Proof.Gen.Pre_finite
public import proofs.«01_k».proof.Proof.Mixer.RefOut
public import proofs.«01_k».proof.Proof.Mixer.KernelFinal
public import Idealize.ShloMosaic.Lib.ReduceAll
public import Idealize.ShloMosaic.Lib.Affine
@[expose] public section

/-! # The mixer and its reference leave the same result -/

set_option maxRecDepth 16384

noncomputable section

namespace Cert.Mixer

open Idealize.ShloMosaic Idealize.ShloMosaic.TcCoe Idealize.SL.Sem

/-! ## The precondition -/

/-- A number whose size is below infinity is real. -/
theorem IsReal.of_lt {x : EReal} (h : max x (-x) < ⊤) : IsReal x := by
  induction x with
  | bot => simp at h
  | top => simp at h
  | coe r => exact ⟨r, rfl⟩

theorem inf_eq : Ideal.ofBits FTy.f32 2139095040#32 = ⊤ := by
  simp [Ideal.ofBits, Ideal.ieee]

section
variable {s : Shape}

/-- Where the comparison with infinity holds, an array is real. -/
theorem IsReal.of_cmp {x : FVec Ideal s .f32} {y : FVec Ideal s .f32} (hy : ∀ i, y i = ⊤) (i : s.Idx)
    (h : cmpf .olt (Host.absf x) y i = 1#1) : IsReal (x i) := by
  have h : BitVec.ofBool (decide (max (x i) (-(x i)) < y i)) = 1#1 := h
  rw [hy] at h
  refine .of_lt ?_
  by_contra hn
  rw [decide_eq_false hn] at h
  exact absurd h (by decide)

end

open Cert.Pre_finite in
/-- The precondition, read: the queries, the keys and the sinks are real. -/
theorem real_of_finite {a0 : FVec Ideal S8192x10752 .bf16} {a1 : FVec Ideal S32 .f32} {a2 : FVec Ideal S3x1024 .f32} {a3 : FVec Ideal S4x1024 .f32}
    {a4 : FVec Ideal S1024 .f32} {a5 : FVec Ideal S8x128x256 .bf16} {a6 a7 a8 a9 : FVec Ideal S1024 .f32} {a10 : FVec Ideal S2048 .f32}
    {a11 : FVec Ideal S1024 .f32} [Cert.Pre_finite.Facts]
    (h : Cert.Pre_finite.fn (F := Ideal) a0 a1 a2 a3 a4 a5 a6 a7 a8 a9 a10 a11 = fun _ => 1#1) :
    (∀ (i : Fin 8192) (j : Fin 10752), 4096 ≤ j.val → j.val < 6400 → IsReal (a0 (ix2 i j))) ∧ ∀ i : Fin 32, IsReal (a1 (ix1 i)) := by
  have h0 := congrFun h ix0
  unfold Cert.Pre_finite.fn at h0
  obtain ⟨hq, hs⟩ := IntOp.andi_eq_one.mp h0
  constructor
  · intro i j h1 h2
    have hr := Host.reduce_andi_all _ _ _ _ _ hq (ix2 i (⟨j.val - 4096, by omega⟩ : Fin 2304))
    have hx := IsReal.of_cmp (fun _ => inf_eq) _ hr
    refine (congrArg IsReal ?_).mp hx
    pointwise
    blk_point
  · intro i
    have := Host.reduce_andi_all _ _ _ _ _ hs (ix1 i)
    exact IsReal.of_cmp (fun _ => inf_eq) _ this

/-! ## The layer that the arrays hold -/

section
variable {m n p : ℕ}

/-- An array's entries by number, nothing beyond its ends. -/
def entries1 (a : (⟨1, ![m]⟩ : Shape).Idx → EReal) (i : ℕ) : EReal := if h : i < m then a (ix1 ⟨i, h⟩) else 0

def entries2 (a : (⟨2, ![m, n]⟩ : Shape).Idx → EReal) (i j : ℕ) : EReal := if h : i < m ∧ j < n then a (ix2 ⟨i, h.1⟩ ⟨j, h.2⟩) else 0

def entries3 (a : (⟨3, ![m, n, p]⟩ : Shape).Idx → EReal) (i j k : ℕ) : EReal :=
  if h : i < m ∧ j < n ∧ k < p then a (ix3 ⟨i, h.1⟩ ⟨j, h.2.1⟩ ⟨k, h.2.2⟩) else 0

theorem entries1_eq (a : (⟨1, ![m]⟩ : Shape).Idx → EReal) (i : Fin m) : a (ix1 i) = entries1 a i.val := by
  rw [entries1, dif_pos i.isLt]

theorem entries2_eq (a : (⟨2, ![m, n]⟩ : Shape).Idx → EReal) (i : Fin m) (j : Fin n) : a (ix2 i j) = entries2 a i.val j.val := by
  rw [entries2, dif_pos ⟨i.isLt, j.isLt⟩]

theorem entries3_eq (a : (⟨3, ![m, n, p]⟩ : Shape).Idx → EReal) (i : Fin m) (j : Fin n) (k : Fin p) :
    a (ix3 i j k) = entries3 a i.val j.val k.val := by
  rw [entries3, dif_pos ⟨i.isLt, j.isLt, k.isLt⟩]

theorem real_zero : IsReal 0 := ⟨0, rfl⟩

end

section
variable (m : (ℓ : Loc Cert.KernelIdeal.nD Cert.KernelIdeal.τ Cert.KernelIdeal.sig) → Buf (Elt Ideal) ℓ) (c : Dev Cert.KernelIdeal.nD)

/-- The layer in the kernel's arrays. -/
def layerOf : Layer where
  h := entries2 (m ((c.tc : Thread Cert.KernelIdeal.nD Cert.KernelIdeal.τ).loc Cert.KernelIdeal.main_arg0))
  sinks := entries1 (m ((c.tc : Thread Cert.KernelIdeal.nD Cert.KernelIdeal.τ).loc Cert.KernelIdeal.main_arg1))
  caw := entries2 (m ((c.tc : Thread Cert.KernelIdeal.nD Cert.KernelIdeal.τ).loc Cert.KernelIdeal.main_arg2))
  ccw := entries2 (m ((c.tc : Thread Cert.KernelIdeal.nD Cert.KernelIdeal.τ).loc Cert.KernelIdeal.main_arg3))
  ccb := entries1 (m ((c.tc : Thread Cert.KernelIdeal.nD Cert.KernelIdeal.τ).loc Cert.KernelIdeal.main_arg4))
  wg := entries3 (m ((c.tc : Thread Cert.KernelIdeal.nD Cert.KernelIdeal.τ).loc Cert.KernelIdeal.main_arg5))
  br := entries1 (m ((c.tc : Thread Cert.KernelIdeal.nD Cert.KernelIdeal.τ).loc Cert.KernelIdeal.main_arg6))
  bi := entries1 (m ((c.tc : Thread Cert.KernelIdeal.nD Cert.KernelIdeal.τ).loc Cert.KernelIdeal.main_arg7))
  lam := entries1 (m ((c.tc : Thread Cert.KernelIdeal.nD Cert.KernelIdeal.τ).loc Cert.KernelIdeal.main_arg8))
  na := entries1 (m ((c.tc : Thread Cert.KernelIdeal.nD Cert.KernelIdeal.τ).loc Cert.KernelIdeal.main_arg9))
  nb := entries1 (m ((c.tc : Thread Cert.KernelIdeal.nD Cert.KernelIdeal.τ).loc Cert.KernelIdeal.main_arg10))
  nc := entries1 (m ((c.tc : Thread Cert.KernelIdeal.nD Cert.KernelIdeal.τ).loc Cert.KernelIdeal.main_arg11))

theorem given : Cert.KernelIdeal.Mixer.Given (layerOf m c) m c :=
  ⟨entries2_eq _, entries1_eq _, entries2_eq _, entries2_eq _, entries1_eq _, entries3_eq _, entries1_eq _, entries1_eq _, entries1_eq _, entries1_eq _, entries1_eq _, entries1_eq _⟩

theorem finite [Cert.Pre_finite.Facts]
    (h : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = fun _ => 1#1) :
    (layerOf m c).Finite := by
  obtain ⟨hq, hs⟩ := real_of_finite h
  constructor
  · intro i j h1 h2
    show IsReal (entries2 _ i j)
    unfold entries2
    split
    · exact hq _ _ h1 h2
    · exact real_zero
  · intro i
    show IsReal (entries1 _ i)
    unfold entries1
    split
    · exact hs _
    · exact real_zero

/-- Another run's arrays of the same contents hold the same layer. -/
theorem reads {V0 : Valuation Cert.ReferenceIdeal.τ Cert.ReferenceIdeal.sig (Elt Ideal)}
    (h0 : V0 (Proc.tc.devRef Cert.ReferenceIdeal.main_arg0) = m ((c.tc : Thread Cert.KernelIdeal.nD Cert.KernelIdeal.τ).loc Cert.KernelIdeal.main_arg0))
    (h1 : V0 (Proc.tc.devRef Cert.ReferenceIdeal.main_arg1) = m ((c.tc : Thread Cert.KernelIdeal.nD Cert.KernelIdeal.τ).loc Cert.KernelIdeal.main_arg1))
    (h2 : V0 (Proc.tc.devRef Cert.ReferenceIdeal.main_arg2) = m ((c.tc : Thread Cert.KernelIdeal.nD Cert.KernelIdeal.τ).loc Cert.KernelIdeal.main_arg2))
    (h3 : V0 (Proc.tc.devRef Cert.ReferenceIdeal.main_arg3) = m ((c.tc : Thread Cert.KernelIdeal.nD Cert.KernelIdeal.τ).loc Cert.KernelIdeal.main_arg3))
    (h4 : V0 (Proc.tc.devRef Cert.ReferenceIdeal.main_arg4) = m ((c.tc : Thread Cert.KernelIdeal.nD Cert.KernelIdeal.τ).loc Cert.KernelIdeal.main_arg4))
    (h5 : V0 (Proc.tc.devRef Cert.ReferenceIdeal.main_arg5) = m ((c.tc : Thread Cert.KernelIdeal.nD Cert.KernelIdeal.τ).loc Cert.KernelIdeal.main_arg5))
    (h6 : V0 (Proc.tc.devRef Cert.ReferenceIdeal.main_arg6) = m ((c.tc : Thread Cert.KernelIdeal.nD Cert.KernelIdeal.τ).loc Cert.KernelIdeal.main_arg6))
    (h7 : V0 (Proc.tc.devRef Cert.ReferenceIdeal.main_arg7) = m ((c.tc : Thread Cert.KernelIdeal.nD Cert.KernelIdeal.τ).loc Cert.KernelIdeal.main_arg7))
    (h8 : V0 (Proc.tc.devRef Cert.ReferenceIdeal.main_arg8) = m ((c.tc : Thread Cert.KernelIdeal.nD Cert.KernelIdeal.τ).loc Cert.KernelIdeal.main_arg8))
    (h9 : V0 (Proc.tc.devRef Cert.ReferenceIdeal.main_arg9) = m ((c.tc : Thread Cert.KernelIdeal.nD Cert.KernelIdeal.τ).loc Cert.KernelIdeal.main_arg9))
    (h10 : V0 (Proc.tc.devRef Cert.ReferenceIdeal.main_arg10) = m ((c.tc : Thread Cert.KernelIdeal.nD Cert.KernelIdeal.τ).loc Cert.KernelIdeal.main_arg10))
    (h11 : V0 (Proc.tc.devRef Cert.ReferenceIdeal.main_arg11) = m ((c.tc : Thread Cert.KernelIdeal.nD Cert.KernelIdeal.τ).loc Cert.KernelIdeal.main_arg11)) :
    Cert.ReferenceIdeal.Mixer.Reads (layerOf m c) V0 := by
  refine ⟨?_, ?_, ?_, ?_, ?_, ?_, ?_, ?_, ?_, ?_, ?_, ?_⟩
  · rw [h0]; exact entries2_eq _
  · rw [h1]; exact entries1_eq _
  · rw [h2]; exact entries2_eq _
  · rw [h3]; exact entries2_eq _
  · rw [h4]; exact entries1_eq _
  · rw [h5]; exact entries3_eq _
  · rw [h6]; exact entries1_eq _
  · rw [h7]; exact entries1_eq _
  · rw [h8]; exact entries1_eq _
  · rw [h9]; exact entries1_eq _
  · rw [h10]; exact entries1_eq _
  · rw [h11]; exact entries1_eq _

end

end Cert.Mixer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.InProjIdeal.Value
public import proofs.«01_k».proof.Proof.Gen.OutProjIdeal.Value
public import proofs.«01_k».proof.Proof.Gen.NormIdeal.Value
public import proofs.«01_k».proof.Proof.Gen.InProjReferenceIdeal.Run
public import proofs.«01_k».proof.Proof.Gen.OutProjReferenceIdeal.Run
public import proofs.«01_k».proof.Proof.Gen.NormReferenceIdeal.Run
public import proofs.«01_k».proof.Proof.Layer.InProj
public import proofs.«01_k».proof.Proof.Layer.OutProj
public import proofs.«01_k».proof.Proof.Layer.Norm
public import proofs.«01_k».proof.Proof.Mixer.KernelRun
public import proofs.«01_k».proof.Proof.Mixer.KernelIdealRun
public import proofs.«01_k».proof.Proof.Gen.ReferenceIdeal
public import proofs.«01_k».proof.Proof.Gen.Pre_finite
public import proofs.«01_k».proof.Proof.Gen.ReferenceIdeal.Run
public import proofs.«01_k».proof.Proof.Mixer.Value
public import Idealize.ShloMosaic.Adequacy
public import Idealize.ShloMosaic.Init

@[expose] public section

noncomputable section

namespace Cert.Proof

open Idealize.ShloMosaic Idealize.SL.Sem Cert.Kernel

theorem frame_inProj : Cert.quiescent_InProj (hInProj := Cert.InProj.Gen.facts) := fun m g _ => Cert.InProj.Gen.frame m g

theorem frame_inProjIdeal : Cert.quiescent_InProjIdeal (hInProjIdeal := Cert.InProjIdeal.Gen.facts) := fun m g _ => Cert.InProjIdeal.Gen.frame m g

theorem frame_inProjReferenceIdeal : Cert.quiescent_InProjReferenceIdeal (hInProjReferenceIdeal := Cert.InProjReferenceIdeal.Gen.facts) := fun m g _ =>
  (θ_run _ _ _).mono (fun r h => ⟨fun c => (h c).2, sem_eq_zero_of_no_sems rfl r.2⟩) (Cert.InProjReferenceIdeal.Value.run m g)

theorem value_inProj : Cert.algebraic_InProjIdeal_InProjReferenceIdeal (hInProjIdeal := Cert.InProjIdeal.Gen.facts) (hInProjReferenceIdeal := Cert.InProjReferenceIdeal.Gen.facts) :=
  fun m g m' g' _ hagree => ⟨fun c => Cert.InProjReferenceIdeal.projected (m ((c.tc : Thread Cert.InProjIdeal.nD Cert.InProjIdeal.τ).loc Cert.InProjIdeal.main_arg0)) (m ((c.tc : Thread Cert.InProjIdeal.nD Cert.InProjIdeal.τ).loc Cert.InProjIdeal.main_arg1)),
    (θ_run _ _ _).mono (fun r h c => ⟨(h c).1.trans (Cert.InProjIdeal.Layer.final m c), (h c).2⟩) (Cert.InProjIdeal.Value.run_blocks m g),
    (θ_run _ _ _).mono (fun r h c => ⟨(h c).1.trans (by rw [(hagree c).1, (hagree c).2]; rfl), (h c).2⟩) (Cert.InProjReferenceIdeal.Value.run m' g')⟩

theorem frame_outProj : Cert.quiescent_OutProj (hOutProj := Cert.OutProj.Gen.facts) := fun m g _ => Cert.OutProj.Gen.frame m g

theorem frame_outProjIdeal : Cert.quiescent_OutProjIdeal (hOutProjIdeal := Cert.OutProjIdeal.Gen.facts) := fun m g _ => Cert.OutProjIdeal.Gen.frame m g

theorem frame_outProjReferenceIdeal : Cert.quiescent_OutProjReferenceIdeal (hOutProjReferenceIdeal := Cert.OutProjReferenceIdeal.Gen.facts) := fun m g _ =>
  (θ_run _ _ _).mono (fun r h => ⟨fun c => (h c).2, sem_eq_zero_of_no_sems rfl r.2⟩) (Cert.OutProjReferenceIdeal.Value.run m g)

theorem value_outProj : Cert.algebraic_OutProjIdeal_OutProjReferenceIdeal (hOutProjIdeal := Cert.OutProjIdeal.Gen.facts) (hOutProjReferenceIdeal := Cert.OutProjReferenceIdeal.Gen.facts) :=
  fun m g m' g' _ hagree => ⟨fun c => Cert.OutProjReferenceIdeal.projected (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)),
    (θ_run _ _ _).mono (fun r h c => ⟨(h c).1.trans (Cert.OutProjIdeal.Layer.final m c), (h c).2⟩) (Cert.OutProjIdeal.Value.run_blocks m g),
    (θ_run _ _ _).mono (fun r h c => ⟨(h c).1.trans (by rw [(hagree c).1, (hagree c).2.1, (hagree c).2.2]; rfl), (h c).2⟩) (Cert.OutProjReferenceIdeal.Value.run m' g')⟩

theorem frame_norm : Cert.quiescent_Norm (hNorm := Cert.Norm.Gen.facts) := fun m g _ => Cert.Norm.Gen.frame m g

theorem frame_normIdeal : Cert.quiescent_NormIdeal (hNormIdeal := Cert.NormIdeal.Gen.facts) := fun m g _ => Cert.NormIdeal.Gen.frame m g

theorem frame_normReferenceIdeal : Cert.quiescent_NormReferenceIdeal (hNormReferenceIdeal := Cert.NormReferenceIdeal.Gen.facts) := fun m g _ =>
  (θ_run _ _ _).mono (fun r h => ⟨fun c => (h c).2.2, sem_eq_zero_of_no_sems rfl r.2⟩) (Cert.NormReferenceIdeal.Value.run m g)

theorem value_norm : Cert.algebraic_NormIdeal_NormReferenceIdeal (hNormIdeal := Cert.NormIdeal.Gen.facts) (hNormReferenceIdeal := Cert.NormReferenceIdeal.Gen.facts) :=
  fun m g m' g' _ hagree => ⟨fun c => Cert.NormReferenceIdeal.normed (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)), fun c => Cert.NormReferenceIdeal.rounded (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)),
    (θ_run _ _ _).mono (fun r h c => ⟨(h c).1.trans (Cert.NormIdeal.Layer.final m c), (h c).2.1.trans (Cert.NormIdeal.Layer.final4 m c), (h c).2.2⟩) (Cert.NormIdeal.Value.run_blocks m g),
    (θ_run _ _ _).mono (fun r h c => ⟨(h c).1.trans (by rw [(hagree c).1, (hagree c).2.1, (hagree c).2.2]; rfl), (h c).2.1.trans (by rw [(hagree c).1, (hagree c).2.1, (hagree c).2.2]; rfl), (h c).2.2⟩) (Cert.NormReferenceIdeal.Value.run m' g')⟩

theorem frame_referenceIdeal : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- The mixer: the reference's result is what the kernel leaves, both being the layer's at every index. -/
theorem value_mixer : Cert.algebraic_KernelIdeal_ReferenceIdeal_pre_finite (hKernelIdeal := Cert.KernelIdeal.Gen.facts)
    (hReferenceIdeal := Cert.ReferenceIdeal.Gen.facts) (hPre_finite := Cert.Pre_finite.Gen.facts) :=
  fun m g m' g' hpre hagree => ⟨fun c => Cert.ReferenceIdeal.Mixer.result (StableHlo.launchContents m' c),
    (θ_run _ _ _).mono (fun r h c => ⟨by
        refine funext fun i => ?_
        rw [show i = ix2 (i 0 : Fin 8192) (i 1 : Fin 4096) from funext fun a => by fin_cases a <;> rfl]
        refine ((h c).1 _ _).trans (Eq.symm (Cert.ReferenceIdeal.Mixer.out (L := Cert.Mixer.layerOf m c) ?_ ?_ _ _))
        · exact Cert.Mixer.reads m c ((hagree c).1) ((hagree c).2.1) ((hagree c).2.2.1) ((hagree c).2.2.2.1) ((hagree c).2.2.2.2.1) ((hagree c).2.2.2.2.2.1) ((hagree c).2.2.2.2.2.2.1) ((hagree c).2.2.2.2.2.2.2.1) ((hagree c).2.2.2.2.2.2.2.2.1) ((hagree c).2.2.2.2.2.2.2.2.2.1) ((hagree c).2.2.2.2.2.2.2.2.2.2.1) ((hagree c).2.2.2.2.2.2.2.2.2.2.2)
        · exact @Cert.Mixer.finite m c Cert.Pre_finite.Gen.facts (hpre c), (h c).2⟩)
      (Cert.KernelIdeal.Mixer.ran m g (Cert.Mixer.layerOf m) (Cert.Mixer.given m)),
    Cert.ReferenceIdeal.Value.run m' g'⟩

theorem claim : Cert.Claim := ⟨Cert.Kernel.Gen.facts, Cert.KernelIdeal.Gen.facts, Cert.ReferenceIdeal.Gen.facts, Cert.InProj.Gen.facts, Cert.InProjIdeal.Gen.facts, Cert.InProjReferenceIdeal.Gen.facts, Cert.OutProj.Gen.facts, Cert.OutProjIdeal.Gen.facts, Cert.OutProjReferenceIdeal.Gen.facts, Cert.Norm.Gen.facts, Cert.NormIdeal.Gen.facts, Cert.NormReferenceIdeal.Gen.facts, Cert.Pre_finite.Gen.facts,
  fun m g _ => Cert.Kernel.Mixer.frame m g, fun m g _ => Cert.KernelIdeal.Mixer.frame m g, fun m g _ => Cert.KernelIdeal.Mixer.frame m g, frame_referenceIdeal, fun m g _ => frame_referenceIdeal m g trivial, frame_inProj, frame_inProjIdeal, frame_inProjReferenceIdeal, frame_outProj, frame_outProjIdeal, frame_outProjReferenceIdeal, frame_norm, frame_normIdeal, frame_normReferenceIdeal, trivial, value_mixer, trivial, value_inProj, trivial, value_outProj, trivial, value_norm⟩

end Cert.Proof

end
